-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale_log2" .f32 0x3E0293EE#32 (((Real.sqrt 128)⁻¹ * (Real.log 2)⁻¹ : ℝ) : EReal)

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S1x1024x28x2x128 : Shape := ⟨5, ![1, 1024, 28, 2, 128]⟩
abbrev S1x1024x28x2 : Shape := ⟨4, ![1, 1024, 28, 2]⟩
abbrev S1x1024x14x2x128 : Shape := ⟨5, ![1, 1024, 14, 2, 128]⟩
abbrev S1x1024x14x2 : Shape := ⟨4, ![1, 1024, 14, 2]⟩
abbrev S1x1024x14x256 : Shape := ⟨4, ![1, 1024, 14, 256]⟩
abbrev S14x256 : Shape := ⟨2, ![14, 256]⟩
abbrev S128 : Shape := ⟨1, ![128]⟩
abbrev S256 : Shape := ⟨1, ![256]⟩
abbrev S_ : Shape := ⟨0, ![]⟩

class Facts : Prop where
  bcast_S_S1x1024x28x2 : S_.BroadcastsInDim S1x1024x28x2 (![] : Fin 0 → Fin S1x1024x28x2.rank)
  reducesTo_S1x1024x28x2_S_d0_1_2_3 : S1x1024x28x2.ReducesTo [0, 1, 2, 3] S_
  h_S_ : 0 < S_.numel

variable [Facts]

def fn {F : FTy → Type} [FloatOps F] (main_arg0 : FVec F S1x1024x28x2x128 .fp8e4m3) (main_arg1 : FVec F S1x1024x28x2 .f32) (main_arg2 : FVec F S1x1024x14x2x128 .fp8e4m3) (main_arg3 : FVec F S1x1024x14x2 .f32) (main_arg4 : FVec F S1x1024x14x256 .fp8e4m3) (main_arg5 : FVec F S14x256 .f32) (main_arg6 : FVec F S128 .f32) (main_arg7 : FVec F S128 .f32) (main_arg8 : FVec F S128 .f32) (main_arg9 : FVec F S128 .f32) (main_arg10 : FVec F S256 .f32) : IVec S_ 1 :=
  let main_cst : FVec F S_ .f32 := constant S_ .f32 0x00000000#32
  let main_v0 : FVec F S1x1024x28x2 .f32 := broadcastInDim S1x1024x28x2 ![] bcast_S_S1x1024x28x2 main_cst
  let main_v1 : IVec S1x1024x28x2 1 := cmpf .ogt main_arg1 main_v0
  let main_c : IVec S_ 1 := constantI S_ 1 1#1
  let main_v2 : IVec S_ 1 := (fun x v => Host.reduce IntOp.andi x v reducesTo_S1x1024x28x2_S_d0_1_2_3 h_S_) main_v1 main_c
  main_v2
-- ==== Kernel.lean ====
abbrev S1x1024x28x2x128 : Shape := ⟨5, ![1, 1024, 28, 2, 128]⟩
abbrev S1x1024x28x2 : Shape := ⟨4, ![1, 1024, 28, 2]⟩
abbrev S1x1024x14x2x128 : Shape := ⟨5, ![1, 1024, 14, 2, 128]⟩
abbrev S1x1024x14x2 : Shape := ⟨4, ![1, 1024, 14, 2]⟩
abbrev S1x1024x14x256 : Shape := ⟨4, ![1, 1024, 14, 256]⟩
abbrev S14x256 : Shape := ⟨2, ![14, 256]⟩
abbrev S128 : Shape := ⟨1, ![128]⟩
abbrev S256 : Shape := ⟨1, ![256]⟩
abbrev S1024x28x2x128 : Shape := ⟨4, ![1024, 28, 2, 128]⟩
abbrev S28x2x1024x128 : Shape := ⟨4, ![28, 2, 1024, 128]⟩
abbrev S1024x28x2 : Shape := ⟨3, ![1024, 28, 2]⟩
abbrev S28x2x1024 : Shape := ⟨3, ![28, 2, 1024]⟩
abbrev S1024x14x2x128 : Shape := ⟨4, ![1024, 14, 2, 128]⟩
abbrev S14x2x1024x128 : Shape := ⟨4, ![14, 2, 1024, 128]⟩
abbrev S1024x14x2 : Shape := ⟨3, ![1024, 14, 2]⟩
abbrev S14x2x1024 : Shape := ⟨3, ![14, 2, 1024]⟩
abbrev S1024x14x256 : Shape := ⟨3, ![1024, 14, 256]⟩
abbrev S14x1024x256 : Shape := ⟨3, ![14, 1024, 256]⟩
abbrev S14x1x256 : Shape := ⟨3, ![14, 1, 256]⟩
abbrev S1x128 : Shape := ⟨2, ![1, 128]⟩
abbrev S1x256 : Shape := ⟨2, ![1, 256]⟩
abbrev S1024x7168 : Shape := ⟨2, ![1024, 7168]⟩
abbrev S2x2x1024x128 : Shape := ⟨4, ![2, 2, 1024, 128]⟩
abbrev S2x2x1024 : Shape := ⟨3, ![2, 2, 1024]⟩
abbrev S1x2x1024x128 : Shape := ⟨4, ![1, 2, 1024, 128]⟩
abbrev S1x2x1024 : Shape := ⟨3, ![1, 2, 1024]⟩
abbrev S1x1024x256 : Shape := ⟨3, ![1, 1024, 256]⟩
abbrev S1x1x256 : Shape := ⟨3, ![1, 1, 256]⟩
abbrev S1024x512 : Shape := ⟨2, ![1024, 512]⟩
abbrev S2x2x1024x256 : Shape := ⟨4, ![2, 2, 1024, 256]⟩
abbrev S2x1024x128 : Shape := ⟨3, ![2, 1024, 128]⟩
abbrev S256x1024 : Shape := ⟨2, ![256, 1024]⟩
abbrev S256x128 : Shape := ⟨2, ![256, 128]⟩
abbrev S128x128 : Shape := ⟨2, ![128, 128]⟩
abbrev S128x256 : Shape := ⟨2, ![128, 256]⟩
abbrev S1 : Shape := ⟨1, ![1]⟩
abbrev S1x1 : Shape := ⟨2, ![1, 1]⟩
abbrev S1x1x128 : Shape := ⟨3, ![1, 1, 128]⟩
abbrev S1x128x128 : Shape := ⟨3, ![1, 128, 128]⟩
abbrev S1x256x256 : Shape := ⟨3, ![1, 256, 256]⟩
abbrev S256x256 : Shape := ⟨2, ![256, 256]⟩
abbrev S1x1x128x128 : Shape := ⟨4, ![1, 1, 128, 128]⟩
abbrev S32x128 : Shape := ⟨2, ![32, 128]⟩
abbrev S1x32x128 : Shape := ⟨3, ![1, 32, 128]⟩
abbrev S1x1x32x128 : Shape := ⟨4, ![1, 1, 32, 128]⟩
abbrev S1x1x384x128 : Shape := ⟨4, ![1, 1, 384, 128]⟩
abbrev S384x128 : Shape := ⟨2, ![384, 128]⟩
abbrev S384x256 : Shape := ⟨2, ![384, 256]⟩
abbrev S1x1x640x128 : Shape := ⟨4, ![1, 1, 640, 128]⟩
abbrev S640x128 : Shape := ⟨2, ![640, 128]⟩
abbrev S640x256 : Shape := ⟨2, ![640, 256]⟩
abbrev S1x1x896x128 : Shape := ⟨4, ![1, 1, 896, 128]⟩
abbrev S896x128 : Shape := ⟨2, ![896, 128]⟩
abbrev S896x256 : Shape := ⟨2, ![896, 256]⟩
abbrev S1x1x1024x128 : Shape := ⟨4, ![1, 1, 1024, 128]⟩
abbrev S1024x128 : Shape := ⟨2, ![1024, 128]⟩
abbrev S1024x256 : Shape := ⟨2, ![1024, 256]⟩
abbrev S1x1x768x128 : Shape := ⟨4, ![1, 1, 768, 128]⟩
abbrev S768x128 : Shape := ⟨2, ![768, 128]⟩
abbrev S768x256 : Shape := ⟨2, ![768, 256]⟩
abbrev S1x1x512x128 : Shape := ⟨4, ![1, 1, 512, 128]⟩
abbrev S512x128 : Shape := ⟨2, ![512, 128]⟩
abbrev S512x256 : Shape := ⟨2, ![512, 256]⟩
abbrev S1x1x256x128 : Shape := ⟨4, ![1, 1, 256, 128]⟩

abbrev nBuf : Space → Nat
  | .hbm => 28
  | .vmem => 25
  | .smem => 0
  | _ => 0

abbrev bufTy : (tb : Table) → Fin (tcTables nBuf tb) → BufTy
  | .hbm, ⟨0, _⟩ => ⟨S1x1024x28x2x128, .fp8e4m3⟩
  | .hbm, ⟨1, _⟩ => ⟨S1x1024x28x2, .f32⟩
  | .hbm, ⟨2, _⟩ => ⟨S1x1024x14x2x128, .fp8e4m3⟩
  | .hbm, ⟨3, _⟩ => ⟨S1x1024x14x2, .f32⟩
  | .hbm, ⟨4, _⟩ => ⟨S1x1024x14x256, .fp8e4m3⟩
  | .hbm, ⟨5, _⟩ => ⟨S14x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S1024x28x2x128, .fp8e4m3⟩
  | .hbm, ⟨12, _⟩ => ⟨S28x2x1024x128, .fp8e4m3⟩
  | .hbm, ⟨13, _⟩ => ⟨S1024x28x2, .f32⟩
  | .hbm, ⟨14, _⟩ => ⟨S28x2x1024, .f32⟩
  | .hbm, ⟨15, _⟩ => ⟨S1024x14x2x128, .fp8e4m3⟩
  | .hbm, ⟨16, _⟩ => ⟨S14x2x1024x128, .fp8e4m3⟩
  | .hbm, ⟨17, _⟩ => ⟨S1024x14x2, .f32⟩
  | .hbm, ⟨18, _⟩ => ⟨S14x2x1024, .f32⟩
  | .hbm, ⟨19, _⟩ => ⟨S1024x14x256, .fp8e4m3⟩
  | .hbm, ⟨20, _⟩ => ⟨S14x1024x256, .fp8e4m3⟩
  | .hbm, ⟨21, _⟩ => ⟨S14x1x256, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x256, .f32⟩
  | .hbm, ⟨27, _⟩ => ⟨S1024x7168, .bf16⟩
  | .local _ .vmem, ⟨0, _⟩ => ⟨S2x2x1024x128, .fp8e4m3⟩
  | .local _ .vmem, ⟨1, _⟩ => ⟨S2x2x1024x128, .fp8e4m3⟩
  | .local _ .vmem, ⟨2, _⟩ => ⟨S2x2x1024, .f32⟩
  | .local _ .vmem, ⟨3, _⟩ => ⟨S2x2x1024, .f32⟩
  | .local _ .vmem, ⟨4, _⟩ => ⟨S1x2x1024x128, .fp8e4m3⟩
  | .local _ .vmem, ⟨5, _⟩ => ⟨S1x2x1024x128, .fp8e4m3⟩
  | .local _ .vmem, ⟨6, _⟩ => ⟨S1x2x1024, .f32⟩
  | .local _ .vmem, ⟨7, _⟩ => ⟨S1x2x1024, .f32⟩
  | .local _ .vmem, ⟨8, _⟩ => ⟨S1x1024x256, .fp8e4m3⟩
  | .local _ .vmem, ⟨9, _⟩ => ⟨S1x1024x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x256, .f32⟩
  | .local _ .vmem, ⟨17, _⟩ => ⟨S1024x512, .bf16⟩
  | .local _ .vmem, ⟨18, _⟩ => ⟨S1024x512, .bf16⟩
  | .local _ .vmem, ⟨19, _⟩ => ⟨S2x2x1024x256, .f32⟩
  | .local _ .vmem, ⟨20, _⟩ => ⟨S2x1024x128, .f32⟩
  | .local _ .vmem, ⟨21, _⟩ => ⟨S256x1024, .bf16⟩
  | .local _ .vmem, ⟨22, _⟩ => ⟨S256x128, .f32⟩
  | .local _ .vmem, ⟨23, _⟩ => ⟨S256x128, .f32⟩
  | .local _ .vmem, ⟨24, _⟩ => ⟨S128x128, .f32⟩
  | _, _ => ⟨S1x1024x28x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![14], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x2x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "scale_log2" => some (((Real.sqrt 128)⁻¹ * (Real.log 2)⁻¹ : ℝ) : EReal)
  | _ => none
-- ==== ReferenceIdeal.lean ====
abbrev S1x1024x28x2x128 : Shape := ⟨5, ![1, 1024, 28, 2, 128]⟩
abbrev S1x1024x28x2 : Shape := ⟨4, ![1, 1024, 28, 2]⟩
abbrev S1x1024x14x2x128 : Shape := ⟨5, ![1, 1024, 14, 2, 128]⟩
abbrev S1x1024x14x2 : Shape := ⟨4, ![1, 1024, 14, 2]⟩
abbrev S1x1024x14x256 : Shape := ⟨4, ![1, 1024, 14, 256]⟩
abbrev S14x256 : Shape := ⟨2, ![14, 256]⟩
abbrev S128 : Shape := ⟨1, ![128]⟩
abbrev S256 : Shape := ⟨1, ![256]⟩
abbrev S1024x28x2x128 : Shape := ⟨4, ![1024, 28, 2, 128]⟩
abbrev S2x28x1024x128 : Shape := ⟨4, ![2, 28, 1024, 128]⟩
abbrev S1024x28x2 : Shape := ⟨3, ![1024, 28, 2]⟩
abbrev S2x28x1024 : Shape := ⟨3, ![2, 28, 1024]⟩
abbrev S2x28x1024x1 : Shape := ⟨4, ![2, 28, 1024, 1]⟩
abbrev S1024x14x2x128 : Shape := ⟨4, ![1024, 14, 2, 128]⟩
abbrev S2x14x1024x128 : Shape := ⟨4, ![2, 14, 1024, 128]⟩
abbrev S2x14x2x1024x128 : Shape := ⟨5, ![2, 14, 2, 1024, 128]⟩
abbrev S1024x14x2 : Shape := ⟨3, ![1024, 14, 2]⟩
abbrev S2x14x1024 : Shape := ⟨3, ![2, 14, 1024]⟩
abbrev S2x14x2x1024 : Shape := ⟨4, ![2, 14, 2, 1024]⟩
abbrev S2x28x1x1024 : Shape := ⟨4, ![2, 28, 1, 1024]⟩
abbrev S1024x14x256 : Shape := ⟨3, ![1024, 14, 256]⟩
abbrev S14x1024x256 : Shape := ⟨3, ![14, 1024, 256]⟩
abbrev S14x2x1024x256 : Shape := ⟨4, ![14, 2, 1024, 256]⟩
abbrev S28x1024x256 : Shape := ⟨3, ![28, 1024, 256]⟩
abbrev S14x2x256 : Shape := ⟨3, ![14, 2, 256]⟩
abbrev S28x256 : Shape := ⟨2, ![28, 256]⟩
abbrev S28x1x256 : Shape := ⟨3, ![28, 1, 256]⟩
abbrev S1x128 : Shape := ⟨2, ![1, 128]⟩
abbrev S1x256 : Shape := ⟨2, ![1, 256]⟩
abbrev S1024x7168 : Shape := ⟨2, ![1024, 7168]⟩
abbrev S1 : Shape := ⟨1, ![1]⟩
abbrev S1x1 : Shape := ⟨2, ![1, 1]⟩
abbrev S1x1x1 : Shape := ⟨3, ![1, 1, 1]⟩
abbrev S28x1024x1024 : Shape := ⟨3, ![28, 1024, 1024]⟩
abbrev S1x28x1024x128 : Shape := ⟨4, ![1, 28, 1024, 128]⟩
abbrev S28x1024x128 : Shape := ⟨3, ![28, 1024, 128]⟩
abbrev S1x28x1024x1 : Shape := ⟨4, ![1, 28, 1024, 1]⟩
abbrev S28x1024x1 : Shape := ⟨3, ![28, 1024, 1]⟩
abbrev S1x28x1x1024 : Shape := ⟨4, ![1, 28, 1, 1024]⟩
abbrev S28x1x1024 : Shape := ⟨3, ![28, 1, 1024]⟩
abbrev S28x1024 : Shape := ⟨2, ![28, 1024]⟩
abbrev S1x1x256 : Shape := ⟨3, ![1, 1, 256]⟩
abbrev S1024x28x256 : Shape := ⟨3, ![1024, 28, 256]⟩

abbrev nBuf : Space → Nat
  | .hbm => 38
  | .vmem => 12
  | .smem => 0
  | _ => 0

abbrev bufTy : (tb : Table) → Fin (tcTables nBuf tb) → BufTy
  | .hbm, ⟨0, _⟩ => ⟨S1x1024x28x2x128, .fp8e4m3⟩
  | .hbm, ⟨1, _⟩ => ⟨S1x1024x28x2, .f32⟩
  | .hbm, ⟨2, _⟩ => ⟨S1x1024x14x2x128, .fp8e4m3⟩
  | .hbm, ⟨3, _⟩ => ⟨S1x1024x14x2, .f32⟩
  | .hbm, ⟨4, _⟩ => ⟨S1x1024x14x256, .fp8e4m3⟩
  | .hbm, ⟨5, _⟩ => ⟨S14x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S1024x28x2x128, .fp8e4m3⟩
  | .hbm, ⟨12, _⟩ => ⟨S2x28x1024x128, .fp8e4m3⟩
  | .hbm, ⟨13, _⟩ => ⟨S1024x28x2, .f32⟩
  | .hbm, ⟨14, _⟩ => ⟨S2x28x1024, .f32⟩
  | .hbm, ⟨15, _⟩ => ⟨S2x28x1024x1, .f32⟩
  | .hbm, ⟨16, _⟩ => ⟨S1024x14x2x128, .fp8e4m3⟩
  | .hbm, ⟨17, _⟩ => ⟨S2x14x1024x128, .fp8e4m3⟩
  | .hbm, ⟨18, _⟩ => ⟨S2x14x2x1024x128, .fp8e4m3⟩
  | .hbm, ⟨19, _⟩ => ⟨S2x28x1024x128, .fp8e4m3⟩
  | .hbm, ⟨20, _⟩ => ⟨S1024x14x2, .f32⟩
  | .hbm, ⟨21, _⟩ => ⟨S2x14x1024, .f32⟩
  | .hbm, ⟨22, _⟩ => ⟨S2x14x2x1024, .f32⟩
  | .hbm, ⟨23, _⟩ => ⟨S2x28x1024, .f32⟩
  | .hbm, ⟨24, _⟩ => ⟨S2x28x1x1024, .f32⟩
  | .hbm, ⟨25, _⟩ => ⟨S1024x14x256, .fp8e4m3⟩
  | .hbm, ⟨26, _⟩ => ⟨S14x1024x256, .fp8e4m3⟩
  | .hbm, ⟨27, _⟩ => ⟨S14x2x1024x256, .fp8e4m3⟩
  | .hbm, ⟨28, _⟩ => ⟨S28x1024x256, .fp8e4m3⟩
  | .hbm, ⟨29, _⟩ => ⟨S14x2x256, .f32⟩
  | .hbm, ⟨30, _⟩ => ⟨S28x256, .f32⟩
  | .hbm, ⟨31, _⟩ => ⟨S28x1x256, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x256, .f32⟩
  | .hbm, ⟨37, _⟩ => ⟨S1024x7168, .bf16⟩
  | .local _ .vmem, ⟨0, _⟩ => ⟨S2x28x1024x128, .fp8e4m3⟩
  | .local _ .vmem, ⟨1, _⟩ => ⟨S2x28x1024x1, .f32⟩
  | .local _ .vmem, ⟨2, _⟩ => ⟨S2x28x1024x128, .fp8e4m3⟩
  | .local _ .vmem, ⟨3, _⟩ => ⟨S2x28x1x1024, .f32⟩
  | .local _ .vmem, ⟨4, _⟩ => ⟨S28x1024x256, .fp8e4m3⟩
  | .local _ .vmem, ⟨5, _⟩ => ⟨S28x1x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S1024x7168, .bf16⟩
  | _, _ => ⟨S1x1024x28x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "score_scale" => some (((Real.sqrt 128)⁻¹ : ℝ) : EReal)
  | _ => none

abbrev grid0 : Pipeline.Grid := .none

abbrev stage0_0 : Fin 1 → Memref sig .tc .vmem S2x28x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x28x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x28x1024x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x28x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x1024x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x7168 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.PreQ.lean ====
module

public import proofs.«01_k».proof.Proof.Gen.Pre_positive
public import Idealize.ShloMosaic.Lib.Pointwise
public import Idealize.ShloMosaic.Lib.ReduceAll

@[expose] public section

/-! What the precondition says: every scale of the queries is positive. -/

noncomputable section

namespace DiffAttn

open Idealize.ShloMosaic Cert.Pre_positive

/-- If the precondition holds, each scale of the queries is positive. -/
theorem scales_pos (a0 : FVec Ideal S1x1024x28x2x128 .fp8e4m3) (a1 : FVec Ideal S1x1024x28x2 .f32) (a2 : FVec Ideal S1x1024x14x2x128 .fp8e4m3)
    (a3 : FVec Ideal S1x1024x14x2 .f32) (a4 : FVec Ideal S1x1024x14x256 .fp8e4m3) (a5 : FVec Ideal S14x256 .f32)
    (a6 a7 a8 a9 : FVec Ideal S128 .f32) (a10 : FVec Ideal S256 .f32)
    (h : fn (F := Ideal) a0 a1 a2 a3 a4 a5 a6 a7 a8 a9 a10 = fun _ => 1#1) (y : S1x1024x28x2.Idx) : (0 : EReal) < a1 y := by
  have : Subsingleton S_.Idx := ⟨fun a b => funext fun k => k.elim0⟩
  have h1 := Host.reduce_andi_all _ _ _ _ (fun k => k.elim0) (congrFun h fun k => k.elim0) y
  have h2 : Ideal.cmp .ogt (a1 y) (Ideal.ofBits .f32 0x00000000#32) = 1#1 := h1
  have h3 : Ideal.ofBits .f32 0x00000000#32 = (0 : EReal) := by simp [Ideal.ofBits, Ideal.ieee]
  rw [h3] at h2
  by_contra hn
  simp [Ideal.cmp, hn] at h2

end DiffAttn

end
-- ==== Proof.At.lean ====
module

public import Idealize.ShloMosaic.Lib.Pointwise
public import Idealize.ShloMosaic.PureOps.Ideal

@[expose] public section

noncomputable section

namespace DiffAttn

open Idealize.ShloMosaic

/-! ### Arrays by natural-number coordinates -/

def at2 {n0 n1 : ℕ} (X : (⟨2, ![n0, n1]⟩ : Shape).Idx → EReal) (a b : ℕ) : EReal :=
  if h : a < n0 ∧ b < n1 then X (ix2 ⟨a, h.1⟩ ⟨b, h.2⟩) else 0

def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

def at4 {n0 n1 n2 n3 : ℕ} (X : (⟨4, ![n0, n1, n2, n3]⟩ : Shape).Idx → EReal) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

theorem eq_at2 {n0 n1 : ℕ} (X : (⟨2, ![n0, n1]⟩ : Shape).Idx → EReal) (y : (⟨2, ![n0, n1]⟩ : Shape).Idx) (a b : ℕ)
    (ha : (y 0).val = a) (hb : (y 1).val = b) : X y = at2 X a b := by
  subst ha hb
  rw [at2, dif_pos ⟨(y 0).isLt, (y 1).isLt⟩]
  exact congrArg X (funext fun a => by fin_cases a <;> rfl)

theorem eq_at3 {n0 n1 n2 : ℕ} (X : (⟨3, ![n0, n1, n2]⟩ : Shape).Idx → EReal) (y : (⟨3, ![n0, n1, n2]⟩ : Shape).Idx) (a b c : ℕ)
    (ha : (y 0).val = a) (hb : (y 1).val = b) (hc : (y 2).val = c) : X y = at3 X a b c := by
  subst ha hb hc
  rw [at3, dif_pos ⟨(y 0).isLt, (y 1).isLt, (y 2).isLt⟩]
  exact congrArg X (funext fun a => by fin_cases a <;> rfl)

theorem eq_at4 {n0 n1 n2 n3 : ℕ} (X : (⟨4, ![n0, n1, n2, n3]⟩ : Shape).Idx → EReal) (y : (⟨4, ![n0, n1, n2, n3]⟩ : Shape).Idx)
    (a b c d : ℕ) (ha : (y 0).val = a) (hb : (y 1).val = b) (hc : (y 2).val = c) (hd : (y 3).val = d) : X y = at4 X a b c d := by
  subst ha hb hc hd
  rw [at4, dif_pos ⟨(y 0).isLt, (y 1).isLt, (y 2).isLt, (y 3).isLt⟩]
  exact congrArg X (funext fun a => by fin_cases a <;> rfl)

def at1 {n0 : ℕ} (X : (⟨1, ![n0]⟩ : Shape).Idx → EReal) (a : ℕ) : EReal :=
  if h : a < n0 then X (ix1 ⟨a, h⟩) else 0

def at5 {n0 n1 n2 n3 n4 : ℕ} (X : (⟨5, ![n0, n1, n2, n3, n4]⟩ : Shape).Idx → EReal) (a b c d e : ℕ) : EReal :=
  if h : a < n0 ∧ b < n1 ∧ c < n2 ∧ d < n3 ∧ e < n4 then
    X (ix5 ⟨a, h.1⟩ ⟨b, h.2.1⟩ ⟨c, h.2.2.1⟩ ⟨d, h.2.2.2.1⟩ ⟨e, h.2.2.2.2⟩) else 0

theorem eq_at1 {n0 : ℕ} (X : (⟨1, ![n0]⟩ : Shape).Idx → EReal) (y : (⟨1, ![n0]⟩ : Shape).Idx) (a : ℕ)
    (ha : (y 0).val = a) : X y = at1 X a := by
  subst ha
  have h0 : (y 0).val < n0 := (y 0).isLt
  rw [at1, dif_pos h0]
  exact congrArg X (funext fun a => by fin_cases a <;> rfl)

theorem eq_at5 {n0 n1 n2 n3 n4 : ℕ} (X : (⟨5, ![n0, n1, n2, n3, n4]⟩ : Shape).Idx → EReal)
    (y : (⟨5, ![n0, n1, n2, n3, n4]⟩ : Shape).Idx) (a b c d e : ℕ) (ha : (y 0).val = a) (hb : (y 1).val = b) (hc : (y 2).val = c)
    (hd : (y 3).val = d) (he : (y 4).val = e) : X y = at5 X a b c d e := by
  subst ha hb hc hd he
  rw [at5, dif_pos ⟨(y 0).isLt, (y 1).isLt, (y 2).isLt, (y 3).isLt, (y 4).isLt⟩]
  exact congrArg X (funext fun a => by fin_cases a <;> rfl)

theorem at1_ix {n0 : ℕ} (X : (⟨1, ![n0]⟩ : Shape).Idx → EReal) (a : Fin n0) : X (ix1 a) = at1 X a.val := eq_at1 X _ _ rfl

theorem at2_ix {n0 n1 : ℕ} (X : (⟨2, ![n0, n1]⟩ : Shape).Idx → EReal) (a : Fin n0) (b : Fin n1) :
    X (ix2 a b) = at2 X a.val b.val := eq_at2 X _ _ _ rfl rfl

theorem at3_ix {n0 n1 n2 : ℕ} (X : (⟨3, ![n0, n1, n2]⟩ : Shape).Idx → EReal) (a : Fin n0) (b : Fin n1) (c : Fin n2) :
    X (ix3 a b c) = at3 X a.val b.val c.val := eq_at3 X _ _ _ _ rfl rfl rfl

theorem at4_ix {n0 n1 n2 n3 : ℕ} (X : (⟨4, ![n0, n1, n2, n3]⟩ : Shape).Idx → EReal) (a : Fin n0) (b : Fin n1) (c : Fin n2)
    (d : Fin n3) : X (ix4 a b c d) = at4 X a.val b.val c.val d.val := eq_at4 X _ _ _ _ _ rfl rfl rfl rfl

theorem at5_ix {n0 n1 n2 n3 n4 : ℕ} (X : (⟨5, ![n0, n1, n2, n3, n4]⟩ : Shape).Idx → EReal) (a : Fin n0) (b : Fin n1) (c : Fin n2)
    (d : Fin n3) (e : Fin n4) : X (ix5 a b c d e) = at5 X a.val b.val c.val d.val e.val := eq_at5 X _ _ _ _ _ _ rfl rfl rfl rfl rfl

end DiffAttn

end
-- ==== Proof.Math.lean ====
module

public import Idealize.ShloMosaic.PureOps.Ideal

@[expose] public section

/-! The arithmetic of a query on the extended reals: the kernel's factored form of the normalized difference of two
softmaxes equals the plain one. -/

noncomputable section

namespace DiffAttn

open Idealize.ShloMosaic

/-! ### Scaling by positive factors -/

theorem coe_mul_add {k : ℝ} (hk : 0 < k) (x y : EReal) : (k : EReal) * (x + y) = k * x + k * y :=
  EReal.left_distrib_of_nonneg_of_ne_top (by exact_mod_cast hk.le) (EReal.coe_ne_top _) x y

theorem coe_mul_sub {k : ℝ} (hk : 0 < k) (x y : EReal) : (k : EReal) * (x - y) = k * x - k * y := by
  rw [sub_eq_add_neg, coe_mul_add hk, sub_eq_add_neg, mul_neg]

theorem coe_mul_sum {k : ℝ} (hk : 0 < k) {ι : Type} (s : Finset ι) (f : ι → EReal) :
    (k : EReal) * ∑ t ∈ s, f t = ∑ t ∈ s, (k : EReal) * f t := by
  classical
  induction s using Finset.induction_on with
  | empty => simp
  | insert a s ha ih => rw [Finset.sum_insert ha, Finset.sum_insert ha, coe_mul_add hk, ih]

theorem sup_mul {ι : Type} (s : Finset ι) (f : ι → EReal) (c : EReal) (hc : 0 < c) :
    s.sup f * c = s.sup fun t => f t * c :=
  Finset.comp_sup_eq_sup_comp_of_is_total (fun x => x * c) (fun _ _ h => mul_le_mul_of_nonneg_right h hc.le)
    (EReal.bot_mul_of_pos hc)

theorem exp2_scaled {k s : ℝ} (hk : 0 < k) (hs : s = k * Real.log 2) (x : EReal) :
    Ideal.exp2 ((k : EReal) * x) = Ideal.exp ((s : EReal) * x) := by
  have hs' : 0 < s := by rw [hs]; exact mul_pos hk (Real.log_pos one_lt_two)
  induction x with
  | bot => rw [EReal.coe_mul_bot_of_pos hk, EReal.coe_mul_bot_of_pos hs']; rfl
  | top => rw [EReal.coe_mul_top_of_pos hk, EReal.coe_mul_top_of_pos hs']; rfl
  | coe x =>
    rw [← EReal.coe_mul, ← EReal.coe_mul, Ideal.exp2_coe, Ideal.exp_coe, hs]
    congr 1
    show (2 : ℝ) ^ (k * x) = _
    rw [Real.rpow_def_of_pos two_pos]
    ring_nf

/-- One exponential, base two with the scales on the kept scores, against base e with the scales inside. -/
theorem exp_eq {k s : ℝ} (hk : 0 < k) (hs : s = k * Real.log 2) (u m a : EReal) :
    Ideal.exp2 (u * (a * k) - a * k * m) = Ideal.exp (u * a * s - m * a * s) := by
  have hs' : 0 < s := by rw [hs]; exact mul_pos hk (Real.log_pos one_lt_two)
  have h1 : u * (a * k) - a * k * m = (k : EReal) * (u * a - m * a) := by
    rw [coe_mul_sub hk]; congr 1
    · rw [← mul_assoc, mul_comm]
    · rw [mul_comm a, mul_assoc, mul_comm a]
  have h2 : u * a * s - m * a * s = (s : EReal) * (u * a - m * a) := by
    rw [coe_mul_sub hs', mul_comm (u * a), mul_comm (m * a)]
  rw [h1, h2, exp2_scaled hk hs]

/-- An exponential of a score less the greatest is a real number of at least zero. -/
theorem exp_sub_real (x m : EReal) (h : x ≤ m) : ∃ f : ℝ, 0 ≤ f ∧ Ideal.exp (x - m) = (f : EReal) := by
  induction x with
  | bot => exact ⟨0, le_rfl, by rw [EReal.bot_sub]; rfl⟩
  | top =>
    obtain rfl : m = ⊤ := top_le_iff.mp h
    exact ⟨0, le_rfl, by rw [EReal.sub_top]; rfl⟩
  | coe x =>
    induction m with
    | bot => exact absurd h (not_le.mpr (EReal.bot_lt_coe x))
    | top => exact ⟨0, le_rfl, by rw [EReal.sub_top]; rfl⟩
    | coe m => exact ⟨Real.exp (x - m), (Real.exp_pos _).le, by rw [← EReal.coe_sub]; rfl⟩

/-! ### A component's exponentials -/

section Comp

variable (i q : ℕ) (D : ℕ → EReal) (a : EReal)

/-- The causally masked scores. -/
def um (r t : ℕ) : EReal := if t ≤ r then D t else ⊥

/-- The plain form: the scaled masked scores' exponentials over `n` keys. -/
def ex (n r t : ℕ) (s : ℝ) : EReal :=
  Ideal.exp ((if t ≤ r then D t * a * s else ⊥) - (Finset.range n).sup fun t => if t ≤ r then D t * a * s else ⊥)

theorem ite_mul_pos {c : EReal} (hc : 0 < c) (r t : ℕ) : (if t ≤ r then D t * c else ⊥) = um D r t * c := by
  unfold um
  split
  · rfl
  · rw [EReal.bot_mul_of_pos hc]

theorem sup_um (r n n' : ℕ) (hr : r < n') (hn : n' ≤ n) : (Finset.range n').sup (um D r) = (Finset.range n).sup (um D r) := by
  apply le_antisymm
  · exact Finset.sup_mono (fun t ht => by simp only [Finset.mem_range] at *; omega)
  · refine Finset.sup_le fun t _ => ?_
    by_cases h : t ≤ r
    · exact Finset.le_sup (f := um D r) (Finset.mem_range.mpr (by omega))
    · unfold um; rw [if_neg h]; exact bot_le

theorem ex_eq {k s : ℝ} (hk : 0 < k) (hs : s = k * Real.log 2) (ha : 0 < a) (u : ℕ → EReal) (r n n' t : ℕ) (hr : r < n')
    (hn : n' ≤ n) (ht : t < n') (hu : ∀ t, t < n' → u t = um D r t) :
    Ideal.exp2 (u t * (a * k) - a * k * (Finset.range n').sup u) = ex D a n r t s := by
  have hs' : 0 < s := by rw [hs]; exact mul_pos hk (Real.log_pos one_lt_two)
  have hc : 0 < a * (s : EReal) := EReal.mul_pos ha (by exact_mod_cast hs')
  have hm : (Finset.range n').sup u = (Finset.range n).sup (um D r) := by
    rw [← sup_um D r n n' hr hn]
    exact Finset.sup_congr rfl fun t ht => hu t (Finset.mem_range.mp ht)
  rw [hm, hu t ht, exp_eq hk hs]
  unfold ex
  simp only [mul_assoc, ite_mul_pos D hc]
  rw [← sup_mul _ _ _ hc]

theorem ex_real {s : ℝ} (n r t : ℕ) (hr : r < n) : ∃ f : ℝ, 0 ≤ f ∧ ex D a n r t s = (f : EReal) := by
  apply exp_sub_real
  by_cases h : t ≤ r
  · exact Finset.le_sup (f := fun t => if t ≤ r then D t * a * s else ⊥) (Finset.mem_range.mpr (by omega))
  · rw [if_neg h]; exact bot_le

theorem ex_masked {s : ℝ} (n r t : ℕ) (ht : r < t) : ex D a n r t s = 0 := by
  unfold ex
  rw [if_neg (by omega), EReal.bot_sub]; rfl

end Comp

/-! ### The difference, the norm -/

section Row

variable (n n' : ℕ) (e0 e1 : ℕ → EReal) (V : ℕ → ℕ → EReal) (vs G : ℕ → EReal) (lam om eps one i256 c256 : EReal)

/-- The kernel's weight of a key. -/
def kw (t : ℕ) : EReal := e0 t - Ideal.div (lam * ∑ t ∈ Finset.range n', e0 t) (∑ t ∈ Finset.range n', e1 t) * e1 t

/-- The kernel's mixed value before the norm. -/
def kW (v : ℕ) : EReal := (∑ t ∈ Finset.range n', V t v * kw n' e0 e1 lam t) * vs v

/-- The kernel's reciprocal. -/
def kr : EReal := Ideal.div one (∑ t ∈ Finset.range n', e0 t)

/-- The kernel's result. -/
def ky (v : ℕ) : EReal :=
  kW n' e0 e1 V vs lam v * (kr n' e0 one * Ideal.rsqrt (kr n' e0 one * kr n' e0 one *
    (∑ v ∈ Finset.range 256, kW n' e0 e1 V vs lam v * kW n' e0 e1 V vs lam v) * i256 + eps)) * (G v * om)

/-- The plain weight of a key. -/
def ra (t : ℕ) : EReal :=
  Ideal.div (e0 t) (∑ t ∈ Finset.range n, e0 t) - Ideal.div lam (∑ t ∈ Finset.range n, e1 t) * e1 t

/-- The plain mixed value. -/
def rP (v : ℕ) : EReal := (∑ t ∈ Finset.range n, ra n e0 e1 lam t * V t v) * vs v

/-- The plain result. -/
def ry (v : ℕ) : EReal :=
  rP n e0 e1 V vs lam v * Ideal.rsqrt (Ideal.div (∑ v ∈ Finset.range 256, rP n e0 e1 V vs lam v * rP n e0 e1 V vs lam v) c256 + eps)
    * G v * om

variable {n n' e0 e1 V vs G lam om eps one i256 c256}

theorem sum_cut (e : ℕ → EReal) (hn : n' ≤ n) (hz : ∀ t, n' ≤ t → e t = 0) :
    ∑ t ∈ Finset.range n, e t = ∑ t ∈ Finset.range n', e t :=
  (Finset.sum_subset (fun t ht => by simp only [Finset.mem_range] at *; omega)
    (fun t _ ht => hz t (by simp only [Finset.mem_range] at ht; omega))).symm

theorem coe_sum_range (f : ℕ → ℝ) (n : ℕ) : ∑ t ∈ Finset.range n, (f t : EReal) = ((∑ t ∈ Finset.range n, f t : ℝ) : EReal) := by
  induction n with
  | zero => simp
  | succ n ih => rw [Finset.sum_range_succ, Finset.sum_range_succ, ih, EReal.coe_add]

theorem div_pos_coe (x : EReal) {y : ℝ} (h : 0 < y) : Ideal.div x (y : EReal) = ((1 / y : ℝ) : EReal) * x := by
  rw [Ideal.div_coe h.ne', mul_comm]

theorem row_eq (f0 f1 : ℕ → ℝ) (h0 : ∀ t, e0 t = (f0 t : EReal)) (h1 : ∀ t, e1 t = (f1 t : EReal)) (p0 : ∀ t, 0 ≤ f0 t) (p1 : ∀ t, 0 ≤ f1 t)
    (hn : n' ≤ n) (z0 : ∀ t, n' ≤ t → e0 t = 0) (z1 : ∀ t, n' ≤ t → e1 t = 0) (hone : one = ((1 : ℝ) : EReal))
    (hi : i256 = ((1 / 256 : ℝ) : EReal)) (hc : c256 = ((256 : ℝ) : EReal)) (ε : ℝ) (he : eps = (ε : EReal)) (v : ℕ) (hv : v < 256) :
    ky n' e0 e1 V vs G lam om eps one i256 v = ry n e0 e1 V vs G lam om eps c256 v := by
  have hs0 : ∑ t ∈ Finset.range n', e0 t = ((∑ t ∈ Finset.range n', f0 t : ℝ) : EReal) := by
    rw [← coe_sum_range]; exact Finset.sum_congr rfl fun t _ => h0 t
  have hs1 : ∑ t ∈ Finset.range n', e1 t = ((∑ t ∈ Finset.range n', f1 t : ℝ) : EReal) := by
    rw [← coe_sum_range]; exact Finset.sum_congr rfl fun t _ => h1 t
  have ht0 := sum_cut e0 hn z0
  have ht1 := sum_cut e1 hn z1
  rw [hs0] at ht0
  rw [hs1] at ht1
  -- a component with a sum of zero has zeros
  have hzero : ∀ (e : ℕ → EReal) (f : ℕ → ℝ), (∀ t, e t = (f t : EReal)) → (∀ t, 0 ≤ f t) → (∀ t, n' ≤ t → e t = 0) →
      ∑ t ∈ Finset.range n', f t = 0 → ∀ t, e t = 0 := by
    intro e f h p z hs t
    rcases Nat.lt_or_ge t n' with ht | ht
    · rw [h, (Finset.sum_eq_zero_iff_of_nonneg fun t _ => p t).mp hs t (Finset.mem_range.mpr ht)]; rfl
    · exact z t ht
  have hn0 : 0 ≤ ∑ t ∈ Finset.range n', f0 t := Finset.sum_nonneg fun t _ => p0 t
  have hn1 : 0 ≤ ∑ t ∈ Finset.range n', f1 t := Finset.sum_nonneg fun t _ => p1 t
  rcases hn0.lt_or_eq with hp | hp
  · -- the first sum is positive: every mixed value carries the reciprocal
    have hr : (0 : ℝ) < 1 / ∑ t ∈ Finset.range n', f0 t := by positivity
    obtain ⟨ρ, hρ⟩ : ∃ ρ : ℝ, ρ = 1 / ∑ t ∈ Finset.range n', f0 t := ⟨_, rfl⟩
    have hkr : kr n' e0 one = (ρ : EReal) := by
      rw [kr, hs0, div_pos_coe _ hp, hone, ← EReal.coe_mul, mul_one, hρ]
    have hρ0 : 0 < ρ := by rw [hρ]; exact hr
    have hra : ∀ t, ra n e0 e1 lam t = (ρ : EReal) * kw n' e0 e1 lam t := by
      intro t
      rw [ra, kw, ht0, ht1, hs0, hs1, div_pos_coe _ hp, coe_mul_sub hρ0, hρ]
      congr 1
      rcases hn1.lt_or_eq with hq | hq
      · rw [div_pos_coe _ hq, div_pos_coe _ hq, ← mul_assoc, ← hρ]
        have : (ρ : EReal) * ((∑ t ∈ Finset.range n', f0 t : ℝ) : EReal) = 1 := by
          rw [← EReal.coe_mul, hρ, one_div_mul_cancel hp.ne']; rfl
        rw [show (ρ : EReal) * (((1 / ∑ t ∈ Finset.range n', f1 t : ℝ) : EReal) * (lam * ((∑ t ∈ Finset.range n', f0 t : ℝ) : EReal))) =
          ((1 / ∑ t ∈ Finset.range n', f1 t : ℝ) : EReal) * lam * ((ρ : EReal) * ((∑ t ∈ Finset.range n', f0 t : ℝ) : EReal)) by ac_rfl, this, mul_one]
      · rw [hzero e1 f1 h1 p1 z1 hq.symm t, mul_zero, mul_zero, mul_zero]
    have hw0 : ∀ t, n' ≤ t → kw n' e0 e1 lam t = 0 := by
      intro t ht
      rw [kw, z0 t ht, z1 t ht, mul_zero, sub_zero]
    have hP : ∀ v, rP n e0 e1 V vs lam v = (ρ : EReal) * kW n' e0 e1 V vs lam v := by
      intro v
      rw [rP, kW, ← mul_assoc, coe_mul_sum hρ0, sum_cut (n' := n') _ hn]
      · congr 1
        refine Finset.sum_congr rfl fun t _ => ?_
        rw [hra, mul_assoc, mul_comm (kw _ _ _ _ _)]
      · intro t ht
        rw [hra, hw0 t ht, mul_zero, zero_mul]
    have hρ2 : 0 < ρ * ρ := mul_pos hρ0 hρ0
    have hss : ∑ v ∈ Finset.range 256, rP n e0 e1 V vs lam v * rP n e0 e1 V vs lam v =
        (ρ : EReal) * (ρ : EReal) * ∑ v ∈ Finset.range 256, kW n' e0 e1 V vs lam v * kW n' e0 e1 V vs lam v := by
      rw [← EReal.coe_mul, coe_mul_sum hρ2]
      refine Finset.sum_congr rfl fun v _ => ?_
      rw [hP, EReal.coe_mul]; ac_rfl
    rw [ky, ry, hkr, hss, hP, hc, div_pos_coe _ (by norm_num : (0 : ℝ) < 256), hi, mul_comm ((1 / 256 : ℝ) : EReal)]
    ac_rfl
  · -- the first sum is zero: both results are zero
    have hz := hzero e0 f0 h0 p0 z0 hp.symm
    have hw : ∀ t, kw n' e0 e1 lam t = 0 := by
      intro t
      rw [kw, hs0, ← hp, hz t, hs1]
      rcases hn1.lt_or_eq with hq | hq
      · rw [div_pos_coe _ hq, EReal.coe_zero, mul_zero, mul_zero, zero_mul, sub_zero]
      · rw [hzero e1 f1 h1 p1 z1 hq.symm t, mul_zero, sub_zero]
    have hkW : kW n' e0 e1 V vs lam v = 0 := by
      rw [kW, Finset.sum_eq_zero fun t _ => by rw [hw, mul_zero], zero_mul]
    rw [ky, hkW, zero_mul, zero_mul]
    have hra : ∀ t, ra n e0 e1 lam t = ⊥ := by
      intro t
      rw [ra, ht0, ← hp, hz t, EReal.coe_zero, Ideal.div, if_pos rfl, if_neg (lt_irrefl _), EReal.bot_sub]
    -- a mixed value is zero or infinite
    have htri : ∀ x : EReal, (⊥ : EReal) * x = 0 ∨ (⊥ : EReal) * x = ⊤ ∨ (⊥ : EReal) * x = ⊥ := by
      intro x
      rcases lt_trichotomy x 0 with h | h | h
      · exact .inr (.inl (EReal.bot_mul_of_neg h))
      · exact .inl (by rw [h, mul_zero])
      · exact .inr (.inr (EReal.bot_mul_of_pos h))
    have hsum : ∀ (s : Finset ℕ) (f : ℕ → EReal), (∀ t, f t = 0 ∨ f t = ⊤ ∨ f t = ⊥) →
        (∑ t ∈ s, f t = 0 ∨ ∑ t ∈ s, f t = ⊤ ∨ ∑ t ∈ s, f t = ⊥) := by
      classical
      intro s f h
      induction s using Finset.induction_on with
      | empty => exact .inl rfl
      | insert a s ha ih =>
        rw [Finset.sum_insert ha]
        rcases h a with h | h | h <;> rcases ih with h' | h' | h' <;> rw [h, h'] <;> simp
    have hPt : ∀ v, rP n e0 e1 V vs lam v = 0 ∨ rP n e0 e1 V vs lam v = ⊤ ∨ rP n e0 e1 V vs lam v = ⊥ := by
      intro v
      rw [rP]
      have := hsum (Finset.range n) (fun t => ra n e0 e1 lam t * V t v) (fun t => by rw [hra]; exact htri _)
      rcases this with h | h | h <;> rw [h]
      · exact .inl (zero_mul _)
      · rcases lt_trichotomy (vs v) 0 with h | h | h
        · exact .inr (.inr (EReal.top_mul_of_neg h))
        · exact .inl (by rw [h, mul_zero])
        · exact .inr (.inl (EReal.top_mul_of_pos h))
      · exact htri _
    by_cases hall : rP n e0 e1 V vs lam v = 0
    · rw [ry, hall, zero_mul, zero_mul, zero_mul]
    · have hsq : ∀ v, 0 ≤ rP n e0 e1 V vs lam v * rP n e0 e1 V vs lam v := by
        intro v
        rcases hPt v with h | h | h <;> rw [h] <;> simp
      have hsv : rP n e0 e1 V vs lam v * rP n e0 e1 V vs lam v = ⊤ := by
        rcases hPt v with h | h | h
        · exact absurd h hall
        · rw [h]; simp
        · rw [h]; simp
      have hT : ∑ v ∈ Finset.range 256, rP n e0 e1 V vs lam v * rP n e0 e1 V vs lam v = ⊤ := by
        apply top_le_iff.mp
        rw [← hsv]
        exact Finset.single_le_sum (f := fun v => rP n e0 e1 V vs lam v * rP n e0 e1 V vs lam v) (fun v _ => hsq v) (Finset.mem_range.mpr hv)
      rw [ry, hT, hc, div_pos_coe _ (by norm_num : (0 : ℝ) < 256), EReal.coe_mul_top_of_pos (by norm_num), he, EReal.top_add_coe,
        Ideal.rsqrt_top, mul_zero, zero_mul, zero_mul]

end Row

end DiffAttn

end
-- ==== Proof.RefA.lean ====
module

public import proofs.«01_k».proof.Proof.At
public import proofs.«01_k».proof.Proof.Math
public import proofs.«01_k».proof.Proof.Gen.ReferenceIdeal.Value
public import Idealize.ShloMosaic.Lib.Pointwise
public import Idealize.ShloMosaic.Lib.WordCmp

@[expose] public section

/-! The plain program's block, read on the extended reals. -/

noncomputable section

namespace DiffAttn.Ref

open Idealize.ShloMosaic Idealize.ShloMosaic.TcCoe Cert.ReferenceIdeal Cert.ReferenceIdeal.Gen

/-- The scores' scale. -/
theorem sigma : Named.named (F := Ideal) (φ := .f32) κ "score_scale" 0x3DB504F3#32 = (((Real.sqrt 128)⁻¹ : ℝ) : EReal) :=
  IdealRules.named_const.ideal_named_scalar _ _ _ _ rfl

theorem negInf : Ideal.ofBits .f32 0xFF800000#32 = ⊥ := by
  simp [Ideal.ofBits, Ideal.ieee]

theorem fold_max_fin (n : ℕ) (f : ℕ → EReal) :
    Finset.fold max ⊥ (fun x : Fin n => f x.val) Finset.univ = (Finset.range n).sup f := by
  refine eq_of_forall_ge_iff fun b => ?_
  rw [Finset.fold_max_le, Finset.sup_le_iff]
  exact ⟨fun h t ht => h.2 ⟨t, Finset.mem_range.mp ht⟩ (Finset.mem_univ _), fun h => ⟨bot_le, fun x _ => h x.val (Finset.mem_range.mpr x.isLt)⟩⟩

theorem select_le (r t : ℕ) (hr : r < 1024) (ht : t < 1024) (a b : EReal) :
    Scalar.select (IntOp.cmpi .sle (BitVec.ofNat 32 t) (BitVec.ofNat 32 r)) a b = if t ≤ r then a else b := by
  rw [Idealize.ShloMosaic.WordCmp.cmpi_sle_ofNat (by omega) (by omega)]
  by_cases h : t ≤ r
  · simp [h, Scalar.select]
  · simp [h, Scalar.select]

theorem pay2_apply (a b : Vec Ideal S1x28x1024x128 .fp8e4m3) (c : Vec Ideal S1x28x1024x1 .f32) (y : S28x1024x1024.Idx) :
    k0_pay2 a b c y = (∑ d : Fin 128, at4 a 0 (y 0).val (y 1).val d.val * at4 b 0 (y 0).val (y 2).val d.val) * at4 c 0 (y 0).val (y 1).val 0 := by
  unfold k0_pay2
  pointwise
  rw [eq_at4 c _ 0 (y 0).val (y 1).val 0 rfl rfl rfl rfl]
  congr 1
  refine Finset.sum_congr rfl fun x _ => ?_
  rw [eq_at4 a _ 0 (y 0).val (y 1).val x.val rfl rfl rfl rfl, eq_at4 b _ 0 (y 0).val (y 2).val x.val rfl rfl rfl rfl]

/-- A component's exponentials from its scores. -/
theorem pay3_apply (l r : IVec S28x1024x1024 32) (hl : ∀ y, l y = BitVec.ofNat 32 (y 1).val) (hr : ∀ y, r y = BitVec.ofNat 32 (y 2).val)
    (p : FVec Ideal S28x1024x1024 .f32) (c : Vec Ideal S1x28x1x1024 .f32) (y : S28x1024x1024.Idx) (D : ℕ → EReal) (a : EReal)
    (hp : ∀ t : Fin 1024, p (ix3 (y 0) (y 1) t) * c (ix4 0 (y 0) 0 t) = D t.val * a) :
    k0_pay3 l r p c y = ex D a 1024 (y 1).val (y 2).val (Real.sqrt 128)⁻¹ := by
  unfold k0_pay3
  pointwise
  have h1 : (y 1).val < 1024 := (y 1).isLt
  have h2 : ∀ t : Fin 1024, Scalar.select (IntOp.cmpi CmpIPredicate.sle (r (ix3 (y 0) (y 1) t)) (l (ix3 (y 0) (y 1) t)))
      (p (ix3 (y 0) (y 1) t) * c (ix4 0 (y 0) 0 t) * Named.named (F := Ideal) (φ := .f32) κ "score_scale" 0x3DB504F3#32)
      (Ideal.ofBits FTy.f32 0xFF800000#32) = if t.val ≤ (y 1).val then D t.val * a * (((Real.sqrt 128)⁻¹ : ℝ) : EReal) else ⊥ := by
    intro t
    rw [hl, hr, hp, sigma, negInf]
    exact select_le _ _ h1 t.isLt _ _
  obtain ⟨n, r', t', rfl⟩ : ∃ n r t, y = ix3 n r t := ⟨y 0, y 1, y 2, by funext a; fin_cases a <;> rfl⟩
  unfold ex
  rw [← fold_max_fin]
  refine congrArg Ideal.exp (congr (congrArg (fun a b : EReal => a - b) (h2 t')) ?_)
  rw [negInf] at h2 ⊢
  exact congrArg (fun f => Finset.fold max ⊥ f Finset.univ) (funext h2)

/-- The other component's, whose scores are written out. -/
theorem pay4_eq (l r : IVec S28x1024x1024 32) (a b : Vec Ideal S1x28x1024x128 .fp8e4m3) (c : Vec Ideal S1x28x1024x1 .f32) (d : Vec Ideal S1x28x1x1024 .f32) :
    k0_pay4 l r a b c d = k0_pay3 l r (k0_pay2 a b c) d := rfl

theorem pay1_apply (a b c d : Vec Ideal S1x128 .f32) (y : S1x1x1.Idx) :
    k0_pay1 a b c d y = Ideal.exp (∑ x : Fin 128, at2 a 0 x.val * at2 b 0 x.val) - Ideal.exp (∑ x : Fin 128, at2 c 0 x.val * at2 d 0 x.val)
      + Ideal.ofBits .f32 0x3F2A86F7#32 := by
  unfold k0_pay1
  pointwise
  simp only [at2_ix a, at2_ix b, at2_ix c, at2_ix d]
  rfl

theorem sum_fin (n : ℕ) (f : ℕ → EReal) : ∑ x : Fin n, f x.val = ∑ t ∈ Finset.range n, f t := Fin.sum_univ_eq_sum_range f n

theorem pay5_apply (l : FVec Ideal S1x1x1 .f32) (p q : FVec Ideal S28x1024x1024 .f32) (v : Vec Ideal S28x1024x256 .fp8e4m3) (c : Vec Ideal S28x1x256 .f32)
    (g : Vec Ideal S1x256 .f32) (y : S1024x7168.Idx) :
    k0_pay5 l p q v c g y =
      ry 1024 (at3 p ((y 1).val / 256) (y 0).val) (at3 q ((y 1).val / 256) (y 0).val) (at3 v ((y 1).val / 256)) (at3 c ((y 1).val / 256) 0)
        (at2 g 0) (at3 l 0 0 0) (Ideal.ofBits .f32 0x3EAAF212#32) (Ideal.ofBits .f32 0x3727C5AC#32) (Ideal.ofBits .f32 0x43800000#32) ((y 1).val % 256) := by
  obtain ⟨r, e, rfl⟩ : ∃ r e, y = ix2 r e := ⟨y 0, y 1, by funext a; fin_cases a <;> rfl⟩
  unfold k0_pay5
  pointwise
  simp only [at3_ix p, at3_ix q, at3_ix v, at3_ix c, at3_ix l, at2_ix g]
  simp only [ry, rP, ra, ← sum_fin]
  rfl

end DiffAttn.Ref

end
-- ==== Proof.RefB.lean ====
module

public import proofs.«01_k».proof.Proof.RefA
public import Idealize.ShloMosaic.Lib.Pipeline.ValueKit

@[expose] public section

/-! The plain program's block over its operands, its operands over the arguments. -/

noncomputable section

namespace DiffAttn.Ref

open Idealize.ShloMosaic Idealize.ShloMosaic.TcCoe Cert.ReferenceIdeal Cert.ReferenceIdeal.Gen

section Out

variable (x0 : Vec Ideal S2x28x1024x128 .fp8e4m3) (x1 : Vec Ideal S2x28x1024x1 .f32) (x2 : Vec Ideal S2x28x1024x128 .fp8e4m3)
  (x3 : Vec Ideal S2x28x1x1024 .f32) (x4 : Vec Ideal S28x1024x256 .fp8e4m3) (x5 : Vec Ideal S28x1x256 .f32)
  (x6 x7 x8 x9 : Vec Ideal S1x128 .f32) (x10 : Vec Ideal S1x256 .f32)

/-- A key's score before the query's scale. -/
def dsc (c n r t : ℕ) : EReal := (∑ d : Fin 128, at4 x0 c n r d.val * at4 x2 c n t d.val) * at4 x3 c n 0 t

/-- Its exponential. -/
def re (c n r t : ℕ) : EReal := ex (dsc x0 x2 x3 c n r) (at4 x1 c n r 0) 1024 r t (Real.sqrt 128)⁻¹

/-- The mixing weight. -/
def rlam : EReal :=
  Ideal.exp (∑ x : Fin 128, at2 x6 0 x.val * at2 x7 0 x.val) - Ideal.exp (∑ x : Fin 128, at2 x8 0 x.val * at2 x9 0 x.val)
    + Ideal.ofBits .f32 0x3F2A86F7#32

theorem at4_ld {n1 n2 n3 : ℕ} {e : EltTy} (X : (⟨4, ![2, n1, n2, n3]⟩ : Shape).Idx → Elt Ideal e) (o : ℕ)
    (h : ∀ a, (![o, 0, 0, 0] : Fin 4 → ℕ) a + (![1, n1, n2, n3] : Fin 4 → ℕ) a ≤ (⟨4, ![2, n1, n2, n3]⟩ : Shape).size a)
    (y : (⟨4, ![1, n1, n2, n3]⟩ : Shape).Idx) :
    View.ld X (Rect.unit (s := ⟨4, ![2, n1, n2, n3]⟩) ![o, 0, 0, 0] ![1, n1, n2, n3] h) y =
      X (ix4 ⟨o, by have := h 0; simp at this; omega⟩ (y 1) (y 2) (y 3)) := by
  refine congrArg X (funext fun a => Fin.ext ?_)
  have h0 : (y 0).val = 0 := by have : (y 0).val < 1 := (y 0).isLt; omega
  fin_cases a <;> simp [h0]

theorem ld_q (o : ℕ) (ho : o < 2) (h) (n r d : ℕ) :
    at4 (View.ld x0 (Rect.unit (s := S2x28x1024x128) ![o, 0, 0, 0] S1x28x1024x128.size h)) 0 n r d = at4 x0 o n r d := by
  unfold at4
  by_cases hh : n < 28 ∧ r < 1024 ∧ d < 128
  · rw [dif_pos ⟨by decide, hh⟩, dif_pos ⟨ho, hh⟩]
    exact at4_ld x0 o h _
  · rw [dif_neg (fun k => hh k.2), dif_neg (fun k => hh k.2)]

theorem ld_qs (o : ℕ) (ho : o < 2) (h) (n r d : ℕ) :
    at4 (View.ld x1 (Rect.unit (s := S2x28x1024x1) ![o, 0, 0, 0] S1x28x1024x1.size h)) 0 n r d = at4 x1 o n r d := by
  unfold at4
  by_cases hh : n < 28 ∧ r < 1024 ∧ d < 1
  · rw [dif_pos ⟨by decide, hh⟩, dif_pos ⟨ho, hh⟩]
    exact at4_ld x1 o h _
  · rw [dif_neg (fun k => hh k.2), dif_neg (fun k => hh k.2)]

theorem ld_ks (o : ℕ) (ho : o < 2) (h) (n r d : ℕ) :
    at4 (View.ld x3 (Rect.unit (s := S2x28x1x1024) ![o, 0, 0, 0] S1x28x1x1024.size h)) 0 n r d = at4 x3 o n r d := by
  unfold at4
  by_cases hh : n < 28 ∧ r < 1 ∧ d < 1024
  · rw [dif_pos ⟨by decide, hh⟩, dif_pos ⟨ho, hh⟩]
    exact at4_ld x3 o h _
  · rw [dif_neg (fun k => hh k.2), dif_neg (fun k => hh k.2)]

theorem comp_gen (a b : Vec Ideal S1x28x1024x128 .fp8e4m3) (c : Vec Ideal S1x28x1024x1 .f32) (d : Vec Ideal S1x28x1x1024 .f32)
    (o n r : ℕ) (hn : n < 28) (hr : r < 1024)
    (ha : ∀ n r d, at4 a 0 n r d = at4 x0 o n r d) (hb : ∀ n r d, at4 b 0 n r d = at4 x2 o n r d)
    (hc : ∀ n r d, at4 c 0 n r d = at4 x1 o n r d) (hd : ∀ n r e, at4 d 0 n r e = at4 x3 o n r e) :
    at3 (k0_pay3 (k0_pay6 x0 x1 x2 x3 x4 x5 x6 x7 x8 x9 x10) (k0_pay7 x0 x1 x2 x3 x4 x5 x6 x7 x8 x9 x10)
      (k0_pay2 a b c) d : S28x1024x1024.Idx → Elt Ideal .f32) n r = re x0 x1 x2 x3 o n r := by
  funext t
  unfold at3
  by_cases ht : t < 1024
  · rw [dif_pos ⟨hn, hr, ht⟩]
    refine pay3_apply _ _ (fun y => ?_) (fun y => ?_) _ _ _ (dsc x0 x2 x3 o n r) (at4 x1 o n r 0) (fun t => ?_)
    · unfold k0_pay6; pointwise
    · unfold k0_pay7; pointwise
    · have e1 : k0_pay2 a b c (ix3 ⟨n, hn⟩ ⟨r, hr⟩ t) =
        (∑ d : Fin 128, at4 a 0 n r d.val * at4 b 0 n t.val d.val) * at4 c 0 n r 0 := pay2_apply a b c _
      have e2 : d (ix4 0 ⟨n, hn⟩ 0 t) = at4 d 0 n 0 t.val := at4_ix d 0 ⟨n, hn⟩ 0 t
      refine (congrArg₂ (fun a b : EReal => a * b) e1 e2).trans ?_
      simp only [ha, hb, hc, hd]
      exact mul_right_comm _ _ _
  · rw [dif_neg (fun k => ht k.2.2), re, ex_masked _ _ _ _ _ (by omega)]

theorem comp_apply (o : ℕ) (ho : o < 2) (hq) (hs) (hk) (n r : ℕ) (hn : n < 28) (hr : r < 1024) :
    at3 (k0_pay3 (k0_pay6 x0 x1 x2 x3 x4 x5 x6 x7 x8 x9 x10) (k0_pay7 x0 x1 x2 x3 x4 x5 x6 x7 x8 x9 x10)
      (k0_pay2 (View.ld x0 (Rect.unit (s := S2x28x1024x128) ![o, 0, 0, 0] S1x28x1024x128.size hq))
        (View.ld x2 (Rect.unit (s := S2x28x1024x128) ![o, 0, 0, 0] S1x28x1024x128.size hq))
        (View.ld x1 (Rect.unit (s := S2x28x1024x1) ![o, 0, 0, 0] S1x28x1024x1.size hs)))
      (View.ld x3 (Rect.unit (s := S2x28x1x1024) ![o, 0, 0, 0] S1x28x1x1024.size hk)) : S28x1024x1024.Idx → Elt Ideal .f32) n r = re x0 x1 x2 x3 o n r :=
  comp_gen x0 x1 x2 x3 x4 x5 x6 x7 x8 x9 x10 _ _ _ _ o n r hn hr (ld_q x0 o ho hq) (ld_q x2 o ho hq) (ld_qs x1 o ho hs) (ld_ks x3 o ho hk)

/-- The block over its operands. -/
theorem out_apply (y : S1024x7168.Idx) :
    out0_11 x0 x1 x2 x3 x4 x5 x6 x7 x8 x9 x10 y =
      ry 1024 (re x0 x1 x2 x3 0 ((y 1).val / 256) (y 0).val) (re x0 x1 x2 x3 1 ((y 1).val / 256) (y 0).val) (at3 x4 ((y 1).val / 256))
        (at3 x5 ((y 1).val / 256) 0) (at2 x10 0) (rlam x6 x7 x8 x9) (Ideal.ofBits .f32 0x3EAAF212#32) (Ideal.ofBits .f32 0x3727C5AC#32)
        (Ideal.ofBits .f32 0x43800000#32) ((y 1).val % 256) := by
  have h0 : (y 0).val < 1024 := (y 0).isLt
  have h1 : (y 1).val < 7168 := (y 1).isLt
  have z2 : (![0, 0] : Fin 2 → ℕ) = fun _ => 0 := by decide
  have z3 : (![0, 0, 0] : Fin 3 → ℕ) = fun _ => 0 := by decide
  unfold out0_11
  rw [View.canon_unit_zero z2]
  rw [pay5_apply, pay4_eq, comp_apply (o := 0) (ho := by decide) (hn := by omega) (hr := h0),
    comp_apply (o := 1) (ho := by decide) (hn := by omega) (hr := h0)]
  have hl : at3 (k0_pay1 (View.ld x6 r0_0) (View.ld x7 r0_0) (View.ld x8 r0_0) (View.ld x9 r0_0) : S1x1x1.Idx → Elt Ideal .f32) 0 0 0 = rlam x6 x7 x8 x9 := by
    refine (eq_at3 (n0 := 1) (n1 := 1) (n2 := 1) _ (ix3 0 0 0) 0 0 0 rfl rfl rfl).symm.trans ?_
    rw [View.ld_unit_zero z2, View.ld_unit_zero z2, View.ld_unit_zero z2, View.ld_unit_zero z2, pay1_apply, rlam]
  rw [hl, View.ld_unit_zero z3, View.ld_unit_zero z3, View.ld_unit_zero z2]

end Out

end DiffAttn.Ref

end
-- ==== Proof.RefC.lean ====
module

public import proofs.«01_k».proof.Proof.RefB
public import Idealize.ShloMosaic.Lib.Pipeline.ValueKit

@[expose] public section

/-! The plain program's result over its arguments. -/

noncomputable section

namespace DiffAttn.Ref

open Idealize.ShloMosaic Idealize.ShloMosaic.TcCoe Cert.ReferenceIdeal Cert.ReferenceIdeal.Gen

variable (m : (ℓ : Loc nD τ sig) → Buf (Elt Ideal) ℓ) (c : Dev nD)

theorem blk0 (t : Fin cfg0.N) (y : S2x28x1024x128.Idx) :
    iblk m c 0 t y = at5 (m ((c : Thread nD τ).loc main_arg0)) 0 ((y 2).val) ((y 1).val) ((y 0).val) ((y 3).val) := by
  have h : iblk m c 0 t y = V m c main_v1 y := by
    have hi : ∀ (t : Fin cfg0.N) a, win0_0.index t a = 0 := by decide +kernel
    blk_ext [iblk, hi t]
  refine h.trans ?_
  entry_read
  pointwise
  exact eq_at5 _ _ _ _ _ _ _ rfl rfl rfl rfl rfl

theorem blk1 (t : Fin cfg0.N) (y : S2x28x1024x1.Idx) :
    iblk m c 1 t y = at4 (m ((c : Thread nD τ).loc main_arg1)) 0 ((y 2).val) ((y 1).val) ((y 0).val) := by
  have h : iblk m c 1 t y = V m c main_v4 y := by
    have hi : ∀ (t : Fin cfg0.N) a, win0_1.index t a = 0 := by decide +kernel
    blk_ext [iblk, hi t]
  refine h.trans ?_
  entry_read
  pointwise
  exact eq_at4 _ _ _ _ _ _ rfl rfl rfl rfl

theorem blk2 (t : Fin cfg0.N) (y : S2x28x1024x128.Idx) :
    iblk m c 2 t y = at5 (m ((c : Thread nD τ).loc main_arg2)) 0 ((y 2).val) ((y 1).val / 2) ((y 0).val) ((y 3).val) := by
  have h : iblk m c 2 t y = V m c main_v8 y := by
    have hi : ∀ (t : Fin cfg0.N) a, win0_2.index t a = 0 := by decide +kernel
    blk_ext [iblk, hi t]
  refine h.trans ?_
  entry_read
  pointwise
  exact eq_at5 _ _ _ _ _ _ _ rfl rfl rfl rfl rfl

theorem blk3 (t : Fin cfg0.N) (y : S2x28x1x1024.Idx) :
    iblk m c 3 t y = at4 (m ((c : Thread nD τ).loc main_arg3)) 0 ((y 3).val) ((y 1).val / 2) ((y 0).val) := by
  have h : iblk m c 3 t y = V m c main_v13 y := by
    have hi : ∀ (t : Fin cfg0.N) a, win0_3.index t a = 0 := by decide +kernel
    blk_ext [iblk, hi t]
  refine h.trans ?_
  entry_read
  pointwise
  exact eq_at4 _ _ _ _ _ _ rfl rfl rfl rfl

theorem blk4 (t : Fin cfg0.N) (y : S28x1024x256.Idx) :
    iblk m c 4 t y = at4 (m ((c : Thread nD τ).loc main_arg4)) 0 ((y 1).val) ((y 0).val / 2) ((y 2).val) := by
  have h : iblk m c 4 t y = V m c main_v17 y := by
    have hi : ∀ (t : Fin cfg0.N) a, win0_4.index t a = 0 := by decide +kernel
    blk_ext [iblk, hi t]
  refine h.trans ?_
  entry_read
  pointwise
  exact eq_at4 _ _ _ _ _ _ rfl rfl rfl rfl

theorem blk5 (t : Fin cfg0.N) (y : S28x1x256.Idx) :
    iblk m c 5 t y = at2 (m ((c : Thread nD τ).loc main_arg5)) ((y 0).val / 2) ((y 2).val) := by
  have h : iblk m c 5 t y = V m c main_v20 y := by
    have hi : ∀ (t : Fin cfg0.N) a, win0_5.index t a = 0 := by decide +kernel
    blk_ext [iblk, hi t]
  refine h.trans ?_
  entry_read
  pointwise
  exact eq_at2 _ _ _ _ rfl rfl

theorem blk6 (t : Fin cfg0.N) (y : S1x128.Idx) :
    iblk m c 6 t y = at1 (m ((c : Thread nD τ).loc main_arg6)) ((y 1).val) := by
  have h : iblk m c 6 t y = V m c main_v21 y := by
    have hi : ∀ (t : Fin cfg0.N) a, win0_6.index t a = 0 := by decide +kernel
    blk_ext [iblk, hi t]
  refine h.trans ?_
  entry_read
  pointwise
  exact eq_at1 _ _ _ rfl

theorem blk7 (t : Fin cfg0.N) (y : S1x128.Idx) :
    iblk m c 7 t y = at1 (m ((c : Thread nD τ).loc main_arg7)) ((y 1).val) := by
  have h : iblk m c 7 t y = V m c main_v22 y := by
    have hi : ∀ (t : Fin cfg0.N) a, win0_7.index t a = 0 := by decide +kernel
    blk_ext [iblk, hi t]
  refine h.trans ?_
  entry_read
  pointwise
  exact eq_at1 _ _ _ rfl

theorem blk8 (t : Fin cfg0.N) (y : S1x128.Idx) :
    iblk m c 8 t y = at1 (m ((c : Thread nD τ).loc main_arg8)) ((y 1).val) := by
  have h : iblk m c 8 t y = V m c main_v23 y := by
    have hi : ∀ (t : Fin cfg0.N) a, win0_8.index t a = 0 := by decide +kernel
    blk_ext [iblk, hi t]
  refine h.trans ?_
  entry_read
  pointwise
  exact eq_at1 _ _ _ rfl

theorem blk9 (t : Fin cfg0.N) (y : S1x128.Idx) :
    iblk m c 9 t y = at1 (m ((c : Thread nD τ).loc main_arg9)) ((y 1).val) := by
  have h : iblk m c 9 t y = V m c main_v24 y := by
    have hi : ∀ (t : Fin cfg0.N) a, win0_9.index t a = 0 := by decide +kernel
    blk_ext [iblk, hi t]
  refine h.trans ?_
  entry_read
  pointwise
  exact eq_at1 _ _ _ rfl

theorem blk10 (t : Fin cfg0.N) (y : S1x256.Idx) :
    iblk m c 10 t y = at1 (m ((c : Thread nD τ).loc main_arg10)) ((y 1).val) := by
  have h : iblk m c 10 t y = V m c main_v25 y := by
    have hi : ∀ (t : Fin cfg0.N) a, win0_10.index t a = 0 := by decide +kernel
    blk_ext [iblk, hi t]
  refine h.trans ?_
  entry_read
  pointwise
  exact eq_at1 _ _ _ rfl

end DiffAttn.Ref

end
-- ==== Proof.Common.lean ====
module

public import proofs.«01_k».proof.Proof.At
public import proofs.«01_k».proof.Proof.Math

@[expose] public section

/-! The result as one function of the arguments, by natural-number coordinates. -/

noncomputable section

namespace DiffAttn

open Idealize.ShloMosaic

section Args

variable (A0 : (⟨5, ![1, 1024, 28, 2, 128]⟩ : Shape).Idx → EReal) (A1 : (⟨4, ![1, 1024, 28, 2]⟩ : Shape).Idx → EReal)
  (A2 : (⟨5, ![1, 1024, 14, 2, 128]⟩ : Shape).Idx → EReal) (A3 : (⟨4, ![1, 1024, 14, 2]⟩ : Shape).Idx → EReal)
  (A4 : (⟨4, ![1, 1024, 14, 256]⟩ : Shape).Idx → EReal) (A5 : (⟨2, ![14, 256]⟩ : Shape).Idx → EReal)
  (A6 A7 A8 A9 : (⟨1, ![128]⟩ : Shape).Idx → EReal) (A10 : (⟨1, ![256]⟩ : Shape).Idx → EReal)

/-- Component `c` of query `r` of head `n` against key `t`, scaled by the key's scale. -/
def score (c n r t : ℕ) : EReal := (∑ d : Fin 128, at5 A0 0 r n c d.val * at5 A2 0 t (n / 2) c d.val) * at4 A3 0 t (n / 2) c

/-- Its exponential in the softmax. -/
def expo (c n r t : ℕ) : EReal := ex (score A0 A2 A3 c n r) (at4 A1 0 r n c) 1024 r t (Real.sqrt 128)⁻¹

/-- The weight of the second softmax. -/
def lambda : EReal :=
  Ideal.exp (∑ d : Fin 128, at1 A6 d.val * at1 A7 d.val) - Ideal.exp (∑ d : Fin 128, at1 A8 d.val * at1 A9 d.val)
    + Ideal.ofBits .f32 0x3F2A86F7#32

/-- The result of head `n`, query `r`, column `v`. -/
def plain (n r v : ℕ) : EReal :=
  ry 1024 (expo A0 A1 A2 A3 0 n r) (expo A0 A1 A2 A3 1 n r) (fun t v => at4 A4 0 t (n / 2) v) (fun v => at2 A5 (n / 2) v) (fun v => at1 A10 v)
    (lambda A6 A7 A8 A9) (Ideal.ofBits .f32 0x3EAAF212#32) (Ideal.ofBits .f32 0x3727C5AC#32) (Ideal.ofBits .f32 0x43800000#32) v

end Args

/-- The plain form reads its arguments only at the keys and columns it sums over. -/
theorem ry_congr (n : ℕ) {e0 e1 e0' e1' : ℕ → EReal} {V V' : ℕ → ℕ → EReal} {vs vs' G G' : ℕ → EReal} {lam lam' om eps c256 : EReal} (v : ℕ)
    (hv : v < 256) (h0 : ∀ t, t < n → e0 t = e0' t) (h1 : ∀ t, t < n → e1 t = e1' t) (hV : ∀ t v, t < n → v < 256 → V t v = V' t v)
    (hvs : ∀ v, v < 256 → vs v = vs' v) (hG : ∀ v, v < 256 → G v = G' v) (hl : lam = lam') :
    ry n e0 e1 V vs G lam om eps c256 v = ry n e0' e1' V' vs' G' lam' om eps c256 v := by
  subst hl
  have s0 : ∑ t ∈ Finset.range n, e0 t = ∑ t ∈ Finset.range n, e0' t := Finset.sum_congr rfl fun t ht => h0 t (Finset.mem_range.mp ht)
  have s1 : ∑ t ∈ Finset.range n, e1 t = ∑ t ∈ Finset.range n, e1' t := Finset.sum_congr rfl fun t ht => h1 t (Finset.mem_range.mp ht)
  have hP : ∀ v, v < 256 → rP n e0 e1 V vs lam v = rP n e0' e1' V' vs' lam v := by
    intro v hv
    rw [rP, rP, hvs v hv]
    congr 1
    refine Finset.sum_congr rfl fun t ht => ?_
    have ht := Finset.mem_range.mp ht
    rw [ra, ra, s0, s1, h0 t ht, h1 t ht, hV t v ht hv]
  rw [ry, ry, hP v hv, hG v hv, Finset.sum_congr rfl fun v hv => by rw [hP v (Finset.mem_range.mp hv)]]

end DiffAttn

end
-- ==== Proof.RefD.lean ====
module

public import proofs.«01_k».proof.Proof.RefC
public import proofs.«01_k».proof.Proof.Common

@[expose] public section

/-! The plain program's result is the function of its arguments. -/

noncomputable section

namespace DiffAttn.Ref

open Idealize.ShloMosaic Idealize.ShloMosaic.TcCoe Cert.ReferenceIdeal Cert.ReferenceIdeal.Gen

variable (m : (ℓ : Loc nD τ sig) → Buf (Elt Ideal) ℓ) (c : Dev nD)

/-- The function of the launch's argument arrays. -/
def result (i : S1024x7168.Idx) : EReal :=
  plain (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) ((i 1).val / 256) (i 0).val ((i 1).val % 256)

theorem read_at2 {n0 n1 : ℕ} (X : (⟨2, ![n0, n1]⟩ : Shape).Idx → EReal) (f : ℕ → ℕ → EReal)
    (h : ∀ y : (⟨2, ![n0, n1]⟩ : Shape).Idx, X y = f (y 0).val (y 1).val) (a b : ℕ) (ha : a < n0) (hb : b < n1) : at2 X a b = f a b := by
  rw [at2, dif_pos ⟨ha, hb⟩]; exact h _

theorem read_at3 {n0 n1 n2 : ℕ} (X : (⟨3, ![n0, n1, n2]⟩ : Shape).Idx → EReal) (f : ℕ → ℕ → ℕ → EReal)
    (h : ∀ y : (⟨3, ![n0, n1, n2]⟩ : Shape).Idx, X y = f (y 0).val (y 1).val (y 2).val) (a b c : ℕ) (ha : a < n0) (hb : b < n1)
    (hc : c < n2) : at3 X a b c = f a b c := by
  rw [at3, dif_pos ⟨ha, hb, hc⟩]; exact h _

theorem read_at4 {n0 n1 n2 n3 : ℕ} (X : (⟨4, ![n0, n1, n2, n3]⟩ : Shape).Idx → EReal) (f : ℕ → ℕ → ℕ → ℕ → EReal)
    (h : ∀ y : (⟨4, ![n0, n1, n2, n3]⟩ : Shape).Idx, X y = f (y 0).val (y 1).val (y 2).val (y 3).val) (a b c d : ℕ) (ha : a < n0)
    (hb : b < n1) (hc : c < n2) (hd : d < n3) : at4 X a b c d = f a b c d := by
  rw [at4, dif_pos ⟨ha, hb, hc, hd⟩]; exact h _

section Generic

variable (x0 : Vec Ideal S2x28x1024x128 .fp8e4m3) (x1 : Vec Ideal S2x28x1024x1 .f32) (x2 : Vec Ideal S2x28x1024x128 .fp8e4m3)
  (x3 : Vec Ideal S2x28x1x1024 .f32) (x4 : Vec Ideal S28x1024x256 .fp8e4m3) (x5 : Vec Ideal S28x1x256 .f32)
  (x6 x7 x8 x9 : Vec Ideal S1x128 .f32) (x10 : Vec Ideal S1x256 .f32)
  (A0 : (⟨5, ![1, 1024, 28, 2, 128]⟩ : Shape).Idx → EReal) (A1 : (⟨4, ![1, 1024, 28, 2]⟩ : Shape).Idx → EReal)
  (A2 : (⟨5, ![1, 1024, 14, 2, 128]⟩ : Shape).Idx → EReal) (A3 : (⟨4, ![1, 1024, 14, 2]⟩ : Shape).Idx → EReal)
  (A4 : (⟨4, ![1, 1024, 14, 256]⟩ : Shape).Idx → EReal) (A5 : (⟨2, ![14, 256]⟩ : Shape).Idx → EReal)
  (A6 A7 A8 A9 : (⟨1, ![128]⟩ : Shape).Idx → EReal) (A10 : (⟨1, ![256]⟩ : Shape).Idx → EReal)
  (b0 : ∀ y, x0 y = at5 A0 0 (y 2).val (y 1).val (y 0).val (y 3).val) (b1 : ∀ y, x1 y = at4 A1 0 (y 2).val (y 1).val (y 0).val)
  (b2 : ∀ y, x2 y = at5 A2 0 (y 2).val ((y 1).val / 2) (y 0).val (y 3).val) (b3 : ∀ y, x3 y = at4 A3 0 (y 3).val ((y 1).val / 2) (y 0).val)
  (b4 : ∀ y, x4 y = at4 A4 0 (y 1).val ((y 0).val / 2) (y 2).val) (b5 : ∀ y, x5 y = at2 A5 ((y 0).val / 2) (y 2).val)
  (b6 : ∀ y, x6 y = at1 A6 (y 1).val) (b7 : ∀ y, x7 y = at1 A7 (y 1).val) (b8 : ∀ y, x8 y = at1 A8 (y 1).val) (b9 : ∀ y, x9 y = at1 A9 (y 1).val)
  (b10 : ∀ y, x10 y = at1 A10 (y 1).val)

include b0 b1 b2 b3 in
theorem re_eq (k n r s : ℕ) (hk : k < 2) (hn : n < 28) (hr : r < 1024) : re x0 x1 x2 x3 k n r s = expo A0 A1 A2 A3 k n r s := by
  have hd : ∀ s, s < 1024 → dsc x0 x2 x3 k n r s = score A0 A2 A3 k n r s := by
    intro s hs
    unfold dsc score
    rw [read_at4 x3 (fun a b _ d => at4 A3 0 d (b / 2) a) b3 k n 0 s hk hn (by decide) hs]
    refine congrArg (fun x : EReal => x * _) ?_
    refine Finset.sum_congr rfl fun d _ => ?_
    rw [read_at4 x0 (fun a b e d => at5 A0 0 e b a d) b0 k n r d.val hk hn hr d.isLt,
      read_at4 x2 (fun a b e d => at5 A2 0 e (b / 2) a d) b2 k n s d.val hk hn hs d.isLt]
  unfold re expo
  rw [read_at4 x1 (fun a b e _ => at4 A1 0 e b a) b1 k n r 0 hk hn hr (by decide)]
  unfold ex
  have hi : ∀ (a σ : EReal) s, (if s ≤ r then dsc x0 x2 x3 k n r s * a * σ else ⊥) =
      if s ≤ r then score A0 A2 A3 k n r s * a * σ else ⊥ := by
    intro a σ s
    split
    · rw [hd s (by omega)]
    · rfl
  simp only [hi]

include b6 b7 b8 b9 in
theorem lam_eq : rlam x6 x7 x8 x9 = lambda A6 A7 A8 A9 := by
  have h6 : ∀ d : Fin 128, at2 x6 0 d.val = at1 A6 d.val := fun d => read_at2 x6 (fun _ b => at1 A6 b) b6 0 d.val (by decide) d.isLt
  have h7 : ∀ d : Fin 128, at2 x7 0 d.val = at1 A7 d.val := fun d => read_at2 x7 (fun _ b => at1 A7 b) b7 0 d.val (by decide) d.isLt
  have h8 : ∀ d : Fin 128, at2 x8 0 d.val = at1 A8 d.val := fun d => read_at2 x8 (fun _ b => at1 A8 b) b8 0 d.val (by decide) d.isLt
  have h9 : ∀ d : Fin 128, at2 x9 0 d.val = at1 A9 d.val := fun d => read_at2 x9 (fun _ b => at1 A9 b) b9 0 d.val (by decide) d.isLt
  unfold rlam lambda
  simp only [h6, h7, h8, h9]

include b0 b1 b2 b3 b4 b5 b6 b7 b8 b9 b10 in
theorem out_plain (i : S1024x7168.Idx) : out0_11 x0 x1 x2 x3 x4 x5 x6 x7 x8 x9 x10 i =
    plain A0 A1 A2 A3 A4 A5 A6 A7 A8 A9 A10 ((i 1).val / 256) (i 0).val ((i 1).val % 256) := by
  have h0 : (i 0).val < 1024 := (i 0).isLt
  have h1 : (i 1).val < 7168 := (i 1).isLt
  rw [out_apply, plain]
  have hn : (i 1).val / 256 < 28 := by omega
  exact ry_congr 1024 _ (by omega) (fun s _ => re_eq x0 x1 x2 x3 A0 A1 A2 A3 b0 b1 b2 b3 0 _ _ s (by decide) hn h0)
    (fun s _ => re_eq x0 x1 x2 x3 A0 A1 A2 A3 b0 b1 b2 b3 1 _ _ s (by decide) hn h0)
    (fun s v hs hv => read_at3 x4 (fun a b d => at4 A4 0 b (a / 2) d) b4 ((i 1).val / 256) s v hn hs hv)
    (fun v hv => read_at3 x5 (fun a _ b => at2 A5 (a / 2) b) b5 ((i 1).val / 256) 0 v hn (by decide) hv)
    (fun v hv => read_at2 x10 (fun _ b => at1 A10 b) b10 0 v (by decide) hv) (lam_eq x6 x7 x8 x9 A6 A7 A8 A9 b6 b7 b8 b9)

end Generic

theorem flush_eq (t : Fin cfg0.N) (i : S1024x7168.Idx) : (dats m 0 c).flushed 11 t i = result m c i := by
  rw [Value.flushed11]
  exact out_plain (iblk m c 0 t) (iblk m c 1 t) (iblk m c 2 t) (iblk m c 3 t) (iblk m c 4 t) (iblk m c 5 t) (iblk m c 6 t) (iblk m c 7 t)
    (iblk m c 8 t) (iblk m c 9 t) (iblk m c 10 t) _ _ _ _ _ _ _ _ _ _ _ (blk0 m c t) (blk1 m c t) (blk2 m c t) (blk3 m c t) (blk4 m c t)
    (blk5 m c t) (blk6 m c t) (blk7 m c t) (blk8 m c t) (blk9 m c t) (blk10 m c t) i

/-- The array the reference leaves, at each index. -/
theorem final (i : S1024x7168.Idx) : (dats m 0 c).arrAt 11 cfg0.N i = result m c i := by
  have t : Fin cfg0.N := ⟨0, by decide⟩
  have hf : ∀ t : Fin cfg0.N, (cfg0.win 11).flush t = true := by decide +kernel
  have hi : ∀ (t : Fin cfg0.N) a, win0_11.index t a = 0 := by decide +kernel
  have hr : ∀ X : S1024x7168.Idx → Elt Ideal .bf16, ((cfg0.win 11).blk t).view.read (Elt Ideal) X i = X i := by
    intro X
    blk_ext [hi t]
  rw [← hr ((dats m 0 c).arrAt 11 cfg0.N)]
  exact (congrFun (Value.blocks11 m c t (hf t)) i).trans (flush_eq m c t i)

end DiffAttn.Ref

end
-- ==== Proof.Model.lean ====
module

public import proofs.«01_k».proof.Proof.Gen.KernelIdeal.Skeleton

@[expose] public section

/-! The kernel's body as loops: the chain of operations the straight-line program runs, over loads and
piece lists, one definition per stage (scores, exponentials, values), for every unit of query rows. -/

noncomputable section

namespace DiffAttn

open Idealize.ShloMosaic Idealize.ShloMosaic.TcCoe Cert.KernelIdeal Cert.KernelIdeal.Gen

variable {F : FTy → Type} [FloatOps F] [Named F]

/-- A way to load a box of a buffer of shape `s`. -/
abbrev Loader (F : FTy → Type) (s : Shape) (e : EltTy) : Type :=
  (off size : Fin s.rank → ℕ) → (∀ a, off a + size a ≤ s.size a) → (⟨s.rank, size⟩ : Shape).Idx → Elt F e

abbrev EScr : Shape := ⟨4, ![2, 2, 1024, 256]⟩
abbrev KScr : Shape := ⟨3, ![2, 1024, 128]⟩
abbrev VScr : Shape := ⟨2, ![256, 1024]⟩
abbrev QIn : Shape := ⟨4, ![2, 2, 1024, 128]⟩
abbrev KIn : Shape := ⟨4, ![1, 2, 1024, 128]⟩
abbrev QsIn : Shape := ⟨3, ![2, 2, 1024]⟩
abbrev KsIn : Shape := ⟨3, ![1, 2, 1024]⟩
abbrev VIn : Shape := ⟨3, ![1, 1024, 256]⟩
abbrev OutB : Shape := ⟨2, ![1024, 512]⟩
abbrev Chunk : Shape := ⟨2, ![32, 128]⟩
abbrev Row : Shape := ⟨2, ![1, 128]⟩
abbrev Blk : Shape := ⟨4, ![1, 1, 32, 128]⟩

/-! ### The boxes and re-indexings fit -/

theorem inb4 {s : Fin 4 → ℕ} {o z : Fin 4 → ℕ} (h0 : o 0 + z 0 ≤ s 0) (h1 : o 1 + z 1 ≤ s 1) (h2 : o 2 + z 2 ≤ s 2)
    (h3 : o 3 + z 3 ≤ s 3) : ∀ a, o a + z a ≤ (⟨4, s⟩ : Shape).size a := by
  intro a; fin_cases a <;> assumption

theorem inb3 {s : Fin 3 → ℕ} {o z : Fin 3 → ℕ} (h0 : o 0 + z 0 ≤ s 0) (h1 : o 1 + z 1 ≤ s 1) (h2 : o 2 + z 2 ≤ s 2) :
    ∀ a, o a + z a ≤ (⟨3, s⟩ : Shape).size a := by
  intro a; fin_cases a <;> assumption

theorem inb2 {s : Fin 2 → ℕ} {o z : Fin 2 → ℕ} (h0 : o 0 + z 0 ≤ s 0) (h1 : o 1 + z 1 ≤ s 1) :
    ∀ a, o a + z a ≤ (⟨2, s⟩ : Shape).size a := by
  intro a; fin_cases a <;> assumption

theorem e_inb {slot c k g : ℕ} (hs : slot < 2) (hc : c < 2) (hk : 32 * k + 32 ≤ 1024) (hg : g < 2) :
    ∀ a, (![slot, c, 32 * k, g * 128] : Fin 4 → ℕ) a + Blk.size a ≤ EScr.size a :=
  inb4 (show slot + 1 ≤ 2 by omega) (show c + 1 ≤ 2 by omega) hk (show g * 128 + 128 ≤ 256 by omega)

theorem q_inb {g c i : ℕ} (hg : g < 2) (hc : c < 2) (hi : i < 8) :
    ∀ a, (![g, c, i * 128, 0] : Fin 4 → ℕ) a + (![1, 1, 128, 128] : Fin 4 → ℕ) a ≤ QIn.size a :=
  inb4 (show g + 1 ≤ 2 by omega) (show c + 1 ≤ 2 by omega) (show i * 128 + 128 ≤ 1024 by omega) (le_refl 128)

theorem k_inb {c i : ℕ} (hc : c < 2) (hi : i < 8) :
    ∀ a, (![0, c, 0, 0] : Fin 4 → ℕ) a + (![1, 1, (i + 1) * 128, 128] : Fin 4 → ℕ) a ≤ KIn.size a :=
  inb4 (le_refl 1) (show c + 1 ≤ 2 by omega) (show 0 + (i + 1) * 128 ≤ 1024 by omega) (le_refl 128)

theorem qs_inb {g c i : ℕ} (hg : g < 2) (hc : c < 2) (hi : i < 8) :
    ∀ a, (![g, c, i * 128] : Fin 3 → ℕ) a + (![1, 1, 128] : Fin 3 → ℕ) a ≤ QsIn.size a :=
  inb3 (show g + 1 ≤ 2 by omega) (show c + 1 ≤ 2 by omega) (show i * 128 + 128 ≤ 1024 by omega)

theorem ks_inb {c j : ℕ} (hc : c < 2) (hj : j < 8) :
    ∀ a, (![0, c, j * 128] : Fin 3 → ℕ) a + (![1, 1, 128] : Fin 3 → ℕ) a ≤ KsIn.size a :=
  inb3 (le_refl 1) (show c + 1 ≤ 2 by omega) (show j * 128 + 128 ≤ 1024 by omega)

theorem kscr_inb {c j : ℕ} (hc : c < 2) (hj : j < 8) :
    ∀ a, (![c, j * 128, 0] : Fin 3 → ℕ) a + (![1, 128, 128] : Fin 3 → ℕ) a ≤ KScr.size a :=
  inb3 (show c + 1 ≤ 2 by omega) (show j * 128 + 128 ≤ 1024 by omega) (le_refl 128)

theorem kc_inb {c k : ℕ} (hc : c < 2) (hk : 32 * k + 32 ≤ 1024) :
    ∀ a, (![c, 32 * k, 0] : Fin 3 → ℕ) a + (![1, 32, 128] : Fin 3 → ℕ) a ≤ KScr.size a :=
  inb3 (show c + 1 ≤ 2 by omega) hk (le_refl 128)

theorem tri_inb {k i : ℕ} (h : 4 * i ≤ k) (hk : k < 4 * (i + 1)) :
    ∀ a, (![32 * k - 128 * i, 0] : Fin 2 → ℕ) a + Chunk.size a ≤ (⟨2, ![128, 128]⟩ : Shape).size a :=
  inb2 (show 32 * k - 128 * i + 32 ≤ 128 by omega) (le_refl 128)

theorem rows_inb {t : ℕ} (ht : t < 8) :
    ∀ a, (![32 * t, 0] : Fin 2 → ℕ) a + Chunk.size a ≤ (⟨2, ![256, 128]⟩ : Shape).size a :=
  inb2 (show 32 * t + 32 ≤ 256 by omega) (le_refl 128)

theorem v_inb {b : ℕ} (hb : b < 8 / 2) :
    ∀ a, (![0, b * 256, 0] : Fin 3 → ℕ) a + (![1, 256, 256] : Fin 3 → ℕ) a ≤ VIn.size a :=
  inb3 (le_refl 1) (show b * 256 + 256 ≤ 1024 by omega) (le_refl 256)

theorem vt_inb {b w : ℕ} (hb : b * 256 + w ≤ 1024) :
    ∀ a, (![0, b * 256] : Fin 2 → ℕ) a + (![256, w] : Fin 2 → ℕ) a ≤ VScr.size a :=
  inb2 (le_refl 256) hb

theorem out_inb {i g : ℕ} (hi : i < 8) (hg : g < 2) :
    ∀ a, (![i * 128, g * 256] : Fin 2 → ℕ) a + (![128, 256] : Fin 2 → ℕ) a ≤ OutB.size a :=
  inb2 (show i * 128 + 128 ≤ 1024 by omega) (show g * 256 + 256 ≤ 512 by omega)

theorem slice_fits {n m r c : ℕ} (hr : r + 32 ≤ n) (hc : c + 128 ≤ m) :
    (⟨2, ![n, m]⟩ : Shape).Slices ![r, c] Chunk :=
  ⟨rfl, by intro a; fin_cases a <;> assumption⟩

theorem cast_k (n : ℕ) : (⟨4, ![1, 1, n, 128]⟩ : Shape).ShapeCasts ⟨2, ![n, 128]⟩ := by
  simp [Shape.ShapeCasts, Shape.numel, Fin.prod_univ_succ]

theorem cat2_rows : Shape.Concatenates [⟨2, ![128, 128]⟩, ⟨2, ![128, 128]⟩] ⟨2, ![256, 128]⟩ 0 := by decide
theorem cat4_ok : Shape.Concatenates [Chunk, Chunk, Chunk, Chunk] ⟨2, ![128, 128]⟩ 0 := by decide
theorem cat8_ok : Shape.Concatenates [Chunk, Chunk, Chunk, Chunk, Chunk, Chunk, Chunk, Chunk] ⟨2, ![256, 128]⟩ 0 := by decide
theorem cat2_full : Shape.Concatenates [⟨2, ![256, 128]⟩, ⟨2, ![256, 128]⟩] ⟨2, ![256, 256]⟩ 1 := by decide
theorem cat2_half : Shape.Concatenates [⟨2, ![128, 128]⟩, ⟨2, ![128, 128]⟩] ⟨2, ![128, 256]⟩ 1 := by decide

/-! ### The stages -/

section Body

variable (ldQ : Loader F QIn .fp8e4m3) (ldQs : Loader F QsIn .f32) (ldK : Loader F KIn .fp8e4m3)
  (ldKs : Loader F KsIn .f32) (ldV : Loader F VIn .fp8e4m3) (ldVs : Loader F ⟨3, ![1, 1, 256]⟩ .f32)
  (ldL : Fin 4 → Loader F Row .f32) (ldTri : Loader F ⟨2, ![128, 128]⟩ .f32) (ldGb : Loader F ⟨2, ![256, 128]⟩ .f32)
  (rdE : List (View.Piece (Elt F) EScr .f32) → Loader F EScr .f32)
  (rdK : List (View.Piece (Elt F) KScr .f32) → Loader F KScr .f32)
  (rdV : List (View.Piece (Elt F) VScr .bf16) → Loader F VScr .bf16)
  (rdVs : List (View.Piece (Elt F) ⟨2, ![256, 128]⟩ .f32) → Loader F ⟨2, ![256, 128]⟩ .f32)

/-- A lambda vector. -/
def lvec (a : Fin 4) : FVec F Row .f32 :=
  shapeCast Row (ldL a ![0, 0] Row.size (by decide)) (by decide)

/-- The exponential of the sum of the products of two lambda vectors. -/
def lexp (a b : Fin 4) : FVec F ⟨2, ![1, 1]⟩ .f32 :=
  exp (shapeCast ⟨2, ![1, 1]⟩
    (multiReduction .add [1] ⟨1, ![1]⟩ (mulf (lvec ldL a) (lvec ldL b)) 0x00000000#32 (by decide) (.inl rfl) rfl) (by decide))

/-- The mixing weight. -/
def lam : FVec F ⟨2, ![1, 1]⟩ .f32 :=
  addf (subf (lexp ldL 0 1) (lexp ldL 2 3)) (broadcast ⟨2, ![1, 1]⟩ (Scalar.ofBits .f32 0x3F2A86F7#32))

/-- One tile of the key scales, spread along the lanes. -/
def ksTile (c j : ℕ) (hc : c < 2) (hj : j < 8) : FVec F ⟨3, ![1, 128, 128]⟩ .f32 :=
  shapeCast ⟨3, ![1, 128, 128]⟩
    (transpose ⟨2, ![128, 128]⟩ [1, 0]
      (broadcastTo ⟨2, ![128, 128]⟩
        (shapeCast Row (shapeCast Row (ldKs ![0, c, j * 128] ![1, 1, 128] (ks_inb hc hj)) (by decide)) (by decide)) (by decide))
      (by decide)) (by decide)

/-- The tiles of the key scales of one component, the last first. -/
def ksTiles (c : ℕ) (hc : c < 2) (L : List (View.Piece (Elt F) KScr .f32)) (n : ℕ) :
    n ≤ 8 → List (View.Piece (Elt F) KScr .f32) :=
  Nat.rec (motive := fun n => n ≤ 8 → List (View.Piece (Elt F) KScr .f32)) (fun _ => L)
    (fun j ih h => ⟨Rect.unit ![c, j * 128, 0] ![1, 128, 128] (kscr_inb hc h), ksTile ldKs c j hc h⟩ :: ih (Nat.le_of_succ_le h)) n

def ksL : List (View.Piece (Elt F) KScr .f32) :=
  ksTiles ldKs 1 (by decide) (ksTiles ldKs 0 (by decide) [] 8 (le_refl _)) 8 (le_refl _)

def vsL : List (View.Piece (Elt F) ⟨2, ![256, 128]⟩ .f32) :=
  [⟨Rect.unit ![0, 0] ![256, 128] (by decide),
    shapeCast ⟨2, ![256, 128]⟩ (transpose ⟨2, ![256, 128]⟩ [1, 0]
      (broadcastTo ⟨2, ![128, 256]⟩
        (shapeCast ⟨2, ![1, 256]⟩ (shapeCast ⟨2, ![1, 256]⟩ (ldVs ![0, 0, 0] ![1, 1, 256] (by decide)) (by decide)) (by decide))
        (by decide)) (by decide)) (by decide)⟩]

def vTile (b : ℕ) (hb : b < 8 / 2) : FVec F ⟨2, ![256, 256]⟩ .bf16 :=
  shapeCast ⟨2, ![256, 256]⟩ (transpose ⟨2, ![256, 256]⟩ [1, 0]
    (extf .bf16 (shapeCast ⟨2, ![256, 256]⟩ (ldV ![0, b * 256, 0] ![1, 256, 256] (v_inb hb)) (by decide)) bitsLt_fp8e4m3_bf16)
    (by decide)) (by decide)

def vL (n : ℕ) : n ≤ 8 / 2 → List (View.Piece (Elt F) VScr .bf16) :=
  Nat.rec (motive := fun n => n ≤ 8 / 2 → List (View.Piece (Elt F) VScr .bf16)) (fun _ => [])
    (fun b ih h => ⟨Rect.unit ![0, b * 256] ![256, 256] (vt_inb (b := b) (by have : b < 8 / 2 := h; omega)), vTile ldV b h⟩ ::
      ih (Nat.le_of_succ_le h)) n

/-! #### Scores -/

def qTile (c i g : ℕ) (hc : c < 2) (hi : i < 8) (hg : g < 2) : FVec F ⟨2, ![128, 128]⟩ .fp8e4m3 :=
  shapeCast ⟨2, ![128, 128]⟩ (ldQ ![g, c, i * 128, 0] ![1, 1, 128, 128] (q_inb hg hc hi)) (by decide)

def qt (c i : ℕ) (hc : c < 2) (hi : i < 8) : FVec F ⟨2, ![256, 128]⟩ .fp8e4m3 :=
  concatenate ⟨2, ![256, 128]⟩ 0
    [⟨⟨2, ![128, 128]⟩, qTile ldQ c i 0 hc hi (by decide)⟩, ⟨⟨2, ![128, 128]⟩, qTile ldQ c i 1 hc hi (by decide)⟩] cat2_rows

def dmat (c i : ℕ) (hc : c < 2) (hi : i < 8) : FVec F ⟨2, ![(i + 1) * 128, 256]⟩ .f32 :=
  matmul (DotDims.transposedRhs ((i + 1) * 128) 128 256) none
    (shapeCast ⟨2, ![(i + 1) * 128, 128]⟩ (ldK ![0, c, 0, 0] ![1, 1, (i + 1) * 128, 128] (k_inb hc hi)) (cast_k _))
    (qt ldQ c i hc hi) (constant _ .f32 0x00000000#32)

def uRaw (c i g k : ℕ) (hc : c < 2) (hi : i < 8) (hg : g < 2) (hk : k < 4 * (i + 1)) : FVec F Chunk .f32 :=
  mulf (extractStridedSlice Chunk ![32 * k, g * 128] (dmat ldQ ldK c i hc hi) (slice_fits (by omega) (by omega)))
    (shapeCast Chunk (rdK (ksL ldKs) ![c, 32 * k, 0] ![1, 32, 128] (kc_inb hc (by omega))) (by decide))

def uC (c i g k : ℕ) (hc : c < 2) (hi : i < 8) (hg : g < 2) (hk : k < 4 * (i + 1)) : FVec F Chunk .f32 :=
  if h : 4 * i ≤ k then
    minimumf (uRaw ldQ ldK ldKs rdK c i g k hc hi hg hk) (ldTri ![32 * k - 128 * i, 0] Chunk.size (tri_inb h hk))
  else uRaw ldQ ldK ldKs rdK c i g k hc hi hg hk

def uL (slot c i g : ℕ) (hs : slot < 2) (hc : c < 2) (hi : i < 8) (hg : g < 2) (L : List (View.Piece (Elt F) EScr .f32)) (n : ℕ) :
    n ≤ 4 * (i + 1) → List (View.Piece (Elt F) EScr .f32) :=
  Nat.rec (motive := fun n => n ≤ 4 * (i + 1) → List (View.Piece (Elt F) EScr .f32)) (fun _ => L)
    (fun k ih h => ⟨Rect.unit ![slot, c, 32 * k, g * 128] Blk.size (e_inb hs hc (by omega) hg),
      shapeCast Blk (uC ldQ ldK ldKs ldTri rdK c i g k hc hi hg h) (by decide)⟩ :: ih (Nat.le_of_succ_le h)) n

def macc (c i g : ℕ) (hc : c < 2) (hi : i < 8) (hg : g < 2) (n : ℕ) : n < 4 * (i + 1) → FVec F Chunk .f32 :=
  Nat.rec (motive := fun n => n < 4 * (i + 1) → FVec F Chunk .f32)
    (fun h => uC ldQ ldK ldKs ldTri rdK c i g 0 hc hi hg h)
    (fun k ih h => maximumf (ih (Nat.lt_of_succ_lt h)) (uC ldQ ldK ldKs ldTri rdK c i g (k + 1) hc hi hg h)) n

def mx (c i g : ℕ) (hc : c < 2) (hi : i < 8) (hg : g < 2) : FVec F Row .f32 :=
  shapeCast Row (multiReduction .maximumf [0] ⟨1, ![128]⟩ (macc ldQ ldK ldKs ldTri rdK c i g hc hi hg (4 * i + 3) (by omega))
    0xFF800000#32 (by decide) (.inl rfl) rfl) (by decide)

def scoresL (slot i : ℕ) (hs : slot < 2) (hi : i < 8) (L : List (View.Piece (Elt F) EScr .f32)) :
    List (View.Piece (Elt F) EScr .f32) :=
  uL ldQ ldK ldKs ldTri rdK slot 1 i 1 hs (by decide) hi (by decide)
    (uL ldQ ldK ldKs ldTri rdK slot 1 i 0 hs (by decide) hi (by decide)
      (uL ldQ ldK ldKs ldTri rdK slot 0 i 1 hs (by decide) hi (by decide)
        (uL ldQ ldK ldKs ldTri rdK slot 0 i 0 hs (by decide) hi (by decide) L _ (le_refl _)) _ (le_refl _)) _ (le_refl _)) _ (le_refl _)

/-! #### Exponentials -/

def av (c i g : ℕ) (hc : c < 2) (hi : i < 8) (hg : g < 2) : FVec F Row .f32 :=
  mulf (shapeCast Row (ldQs ![g, c, i * 128] ![1, 1, 128] (qs_inb hg hc hi)) (by decide))
    (broadcast Row (Named.named κ "scale_log2" 0x3E0293EE#32))

def bv (c i g : ℕ) (hc : c < 2) (hi : i < 8) (hg : g < 2) : FVec F Row .f32 :=
  mulf (av ldQs c i g hc hi hg) (mx ldQ ldK ldKs ldTri rdK c i g hc hi hg)

/-- A chunk of the scratch as loaded. -/
def eLd (slot c g k : ℕ) (hs : slot < 2) (hc : c < 2) (hg : g < 2) (hk : 32 * k + 32 ≤ 1024) (L : List (View.Piece (Elt F) EScr .f32)) :
    FVec F Chunk .f32 :=
  shapeCast Chunk (rdE L ![slot, c, 32 * k, g * 128] Blk.size (e_inb hs hc hk hg)) (by decide)

def eC (slot c i g k : ℕ) (hs : slot < 2) (hc : c < 2) (hi : i < 8) (hg : g < 2) (hk : 32 * k + 32 ≤ 1024)
    (L : List (View.Piece (Elt F) EScr .f32)) : FVec F Chunk .f32 :=
  exp2 (subf (mulf (eLd rdE slot c g k hs hc hg hk L) (broadcastTo Chunk (av ldQs c i g hc hi hg) (by decide)))
    (broadcastTo Chunk (bv ldQ ldQs ldK ldKs ldTri rdK c i g hc hi hg) (by decide)))

def eL (slot c i g : ℕ) (hs : slot < 2) (hc : c < 2) (hi : i < 8) (hg : g < 2) (L : List (View.Piece (Elt F) EScr .f32)) (n : ℕ) :
    n ≤ 4 * (i + 1) → List (View.Piece (Elt F) EScr .f32) :=
  Nat.rec (motive := fun n => n ≤ 4 * (i + 1) → List (View.Piece (Elt F) EScr .f32)) (fun _ => L)
    (fun k ih h => ⟨Rect.unit ![slot, c, 32 * k, g * 128] Blk.size (e_inb hs hc (by omega) hg),
      shapeCast Blk (eC ldQ ldQs ldK ldKs ldTri rdE rdK slot c i g k hs hc hi hg (by omega) (ih (Nat.le_of_succ_le h))) (by decide)⟩ ::
        ih (Nat.le_of_succ_le h)) n

def sacc (slot c i g : ℕ) (hs : slot < 2) (hc : c < 2) (hi : i < 8) (hg : g < 2) (L : List (View.Piece (Elt F) EScr .f32)) (n : ℕ) :
    n < 4 * (i + 1) → FVec F Chunk .f32 :=
  Nat.rec (motive := fun n => n < 4 * (i + 1) → FVec F Chunk .f32)
    (fun _ => eC ldQ ldQs ldK ldKs ldTri rdE rdK slot c i g 0 hs hc hi hg (by omega) L)
    (fun k ih h => addf (ih (Nat.lt_of_succ_lt h)) (eC ldQ ldQs ldK ldKs ldTri rdE rdK slot c i g (k + 1) hs hc hi hg (by omega)
      (eL ldQ ldQs ldK ldKs ldTri rdE rdK slot c i g hs hc hi hg L (k + 1) (Nat.le_of_lt h)))) n

def sm (slot c i g : ℕ) (hs : slot < 2) (hc : c < 2) (hi : i < 8) (hg : g < 2) (L : List (View.Piece (Elt F) EScr .f32)) : FVec F Row .f32 :=
  shapeCast Row (multiReduction .add [0] ⟨1, ![128]⟩ (sacc ldQ ldQs ldK ldKs ldTri rdE rdK slot c i g hs hc hi hg L (4 * i + 3) (by omega))
    0x00000000#32 (by decide) (.inl rfl) rfl) (by decide)

/-- The pieces before the exponentials of component `p / 2`, head `p % 2`. -/
def eStage (slot i : ℕ) (hs : slot < 2) (hi : i < 8) (L : List (View.Piece (Elt F) EScr .f32)) (p : ℕ) :
    p ≤ 4 → List (View.Piece (Elt F) EScr .f32) :=
  Nat.rec (motive := fun p => p ≤ 4 → List (View.Piece (Elt F) EScr .f32)) (fun _ => L)
    (fun p ih h => eL ldQ ldQs ldK ldKs ldTri rdE rdK slot (p / 2) i (p % 2) hs (by omega) hi (Nat.mod_lt _ (by decide))
      (ih (Nat.le_of_succ_le h)) (4 * (i + 1)) (le_refl _)) p

def sumP (slot i p : ℕ) (hs : slot < 2) (hi : i < 8) (hp : p < 4) (L : List (View.Piece (Elt F) EScr .f32)) : FVec F Row .f32 :=
  sm ldQ ldQs ldK ldKs ldTri rdE rdK slot (p / 2) i (p % 2) hs (by omega) hi (Nat.mod_lt _ (by decide))
    (eStage ldQ ldQs ldK ldKs ldTri rdE rdK slot i hs hi L p (Nat.le_of_lt hp))

/-! #### Values -/

/-- The weight on the second component, times the first one's sum. -/
def coef (s0 s1 : FVec F Row .f32) : FVec F Row .f32 :=
  divf (mulf (broadcastTo Row (lam ldL) (by decide)) s0) s1

def aC (slot g k : ℕ) (hs : slot < 2) (hg : g < 2) (hk : 32 * k + 32 ≤ 1024) (cf : FVec F Row .f32) (L : List (View.Piece (Elt F) EScr .f32)) :
    FVec F Chunk .bf16 :=
  truncf .bf16 (subf (eLd rdE slot 0 g k hs (by decide) hg hk L)
    (mulf (broadcastTo Chunk cf (by decide)) (eLd rdE slot 1 g k hs (by decide) hg hk L))) bitsLt_bf16_f32

def cat4 (f : ∀ k, k < 4 → FVec F Chunk .bf16) : FVec F ⟨2, ![128, 128]⟩ .bf16 :=
  concatenate ⟨2, ![128, 128]⟩ 0 [⟨Chunk, f 0 (by decide)⟩, ⟨Chunk, f 1 (by decide)⟩, ⟨Chunk, f 2 (by decide)⟩, ⟨Chunk, f 3 (by decide)⟩]
    cat4_ok

def cat8 (f : ∀ k, k < 8 → FVec F Chunk .bf16) : FVec F ⟨2, ![256, 128]⟩ .bf16 :=
  concatenate ⟨2, ![256, 128]⟩ 0 [⟨Chunk, f 0 (by decide)⟩, ⟨Chunk, f 1 (by decide)⟩, ⟨Chunk, f 2 (by decide)⟩, ⟨Chunk, f 3 (by decide)⟩,
    ⟨Chunk, f 4 (by decide)⟩, ⟨Chunk, f 5 (by decide)⟩, ⟨Chunk, f 6 (by decide)⟩, ⟨Chunk, f 7 (by decide)⟩] cat8_ok

section Mix

variable (slot : ℕ) (hs : slot < 2) (c0 c1 : FVec F Row .f32) (L : List (View.Piece (Elt F) EScr .f32))

def aFull (b : ℕ) (hb : b * 256 + 256 ≤ 1024) : FVec F ⟨2, ![256, 256]⟩ .bf16 :=
  concatenate ⟨2, ![256, 256]⟩ 1
    [⟨⟨2, ![256, 128]⟩, cat8 fun k hk => aC rdE slot 0 (8 * b + k) hs (by decide) (by omega) c0 L⟩,
     ⟨⟨2, ![256, 128]⟩, cat8 fun k hk => aC rdE slot 1 (8 * b + k) hs (by decide) (by omega) c1 L⟩] cat2_full

def aHalf (b : ℕ) (hb : b * 256 + 128 ≤ 1024) : FVec F ⟨2, ![128, 256]⟩ .bf16 :=
  concatenate ⟨2, ![128, 256]⟩ 1
    [⟨⟨2, ![128, 128]⟩, cat4 fun k hk => aC rdE slot 0 (8 * b + k) hs (by decide) (by omega) c0 L⟩,
     ⟨⟨2, ![128, 128]⟩, cat4 fun k hk => aC rdE slot 1 (8 * b + k) hs (by decide) (by omega) c1 L⟩] cat2_half

def oFull (b : ℕ) (hb : b * 256 + 256 ≤ 1024) : FVec F ⟨2, ![256, 256]⟩ .f32 :=
  matmul (DotDims.plain 256 256 256) none (rdV (vL ldV (8 / 2) (le_refl _)) ![0, b * 256] ![256, 256] (vt_inb hb))
    (aFull rdE slot hs c0 c1 L b hb) (constant _ .f32 0x00000000#32)

def oHalf (b : ℕ) (hb : b * 256 + 128 ≤ 1024) : FVec F ⟨2, ![256, 256]⟩ .f32 :=
  matmul (DotDims.plain 256 128 256) none (rdV (vL ldV (8 / 2) (le_refl _)) ![0, b * 256] ![256, 128] (vt_inb hb))
    (aHalf rdE slot hs c0 c1 L b hb) (constant _ .f32 0x00000000#32)

def oSum (n : ℕ) : n * 256 + 256 ≤ 1024 → FVec F ⟨2, ![256, 256]⟩ .f32 :=
  Nat.rec (motive := fun n => n * 256 + 256 ≤ 1024 → FVec F ⟨2, ![256, 256]⟩ .f32)
    (fun h => oFull ldV rdE rdV slot hs c0 c1 L 0 h)
    (fun b ih h => addf (ih (by omega)) (oFull ldV rdE rdV slot hs c0 c1 L (b + 1) h)) n

def oAll (i : ℕ) (hi : i < 8) : FVec F ⟨2, ![256, 256]⟩ .f32 :=
  if h : i % 2 = 1 then oSum ldV rdE rdV slot hs c0 c1 L (i / 2) (by omega)
  else if h0 : i = 0 then oHalf ldV rdE rdV slot hs c0 c1 L 0 (by omega)
  else addf (oSum ldV rdE rdV slot hs c0 c1 L (i / 2 - 1) (by omega)) (oHalf ldV rdE rdV slot hs c0 c1 L (i / 2) (by omega))

end Mix

section Norm

variable (o : FVec F ⟨2, ![256, 256]⟩ .f32) (g : ℕ) (hg : g < 2) (s : FVec F Row .f32)

def wC (t : ℕ) (ht : t < 8) : FVec F Chunk .f32 :=
  mulf (extractStridedSlice Chunk ![32 * t, g * 128] o (slice_fits (by omega) (by omega)))
    (rdVs (vsL ldVs) ![32 * t, 0] Chunk.size (rows_inb ht))

def ssq (n : ℕ) : n < 8 → FVec F Chunk .f32 :=
  Nat.rec (motive := fun n => n < 8 → FVec F Chunk .f32)
    (fun h => mulf (wC ldVs rdVs o g hg 0 h) (wC ldVs rdVs o g hg 0 h))
    (fun t ih h => addf (ih (Nat.lt_of_succ_lt h)) (mulf (wC ldVs rdVs o g hg (t + 1) h) (wC ldVs rdVs o g hg (t + 1) h))) n

def rl : FVec F Row .f32 := divf (broadcast Row (Scalar.ofBits .f32 0x3F800000#32)) s

def fV : FVec F Row .f32 :=
  mulf (rl s) (rsqrt (addf (mulf (mulf (mulf (rl s) (rl s))
    (shapeCast Row (multiReduction .add [0] ⟨1, ![128]⟩ (ssq ldVs rdVs o g hg 7 (by decide)) 0x00000000#32 (by decide) (.inl rfl) rfl) (by decide)))
    (broadcast Row (Scalar.ofBits .f32 0x3B800000#32))) (broadcast Row (Scalar.ofBits .f32 0x3727C5AC#32))))

def yC (t : ℕ) (ht : t < 8) : FVec F Chunk .bf16 :=
  truncf .bf16 (mulf (mulf (wC ldVs rdVs o g hg t ht) (broadcastTo Chunk (fV ldVs rdVs o g hg s) (by decide)))
    (ldGb ![32 * t, 0] Chunk.size (rows_inb ht))) bitsLt_bf16_f32

def yT : FVec F ⟨2, ![128, 256]⟩ .bf16 :=
  transpose ⟨2, ![128, 256]⟩ [1, 0] (cat8 fun t ht => yC ldVs ldGb rdVs o g hg s t ht) (by decide)

end Norm

/-- What a unit writes: its two heads' blocks, the last first, from the scratch before its exponentials. -/
def unitOut (slot : ℕ) (hs : slot < 2) (L : List (View.Piece (Elt F) EScr .f32)) (i : ℕ) (hi : i < 8) (Lo : List (View.Piece (Elt F) OutB .bf16)) : List (View.Piece (Elt F) OutB .bf16) :=
  let s00 := sumP ldQ ldQs ldK ldKs ldTri rdE rdK slot i 0 hs hi (by decide) L
  let s01 := sumP ldQ ldQs ldK ldKs ldTri rdE rdK slot i 1 hs hi (by decide) L
  let s10 := sumP ldQ ldQs ldK ldKs ldTri rdE rdK slot i 2 hs hi (by decide) L
  let s11 := sumP ldQ ldQs ldK ldKs ldTri rdE rdK slot i 3 hs hi (by decide) L
  let o := oAll ldV rdE rdV slot hs (coef ldL s00 s10) (coef ldL s01 s11)
    (eStage ldQ ldQs ldK ldKs ldTri rdE rdK slot i hs hi L 4 (le_refl _)) i hi
  ⟨Rect.unit ![i * 128, 1 * 256] ![128, 256] (out_inb hi (by decide)), yT ldVs ldGb rdVs o 1 (by decide) s01⟩ ::
  ⟨Rect.unit ![i * 128, 0 * 256] ![128, 256] (out_inb hi (by decide)), yT ldVs ldGb rdVs o 0 (by decide) s00⟩ :: Lo

end Body

/-- The order of the units. -/
def unitAt (t : ℕ) : ℕ := if t < 4 then 2 * t else 15 - 2 * t

theorem unitAt_lt {t : ℕ} (h : t < 8) : unitAt t < 8 := by unfold unitAt; split <;> omega

section Run

variable (ldQ : Loader F QIn .fp8e4m3) (ldQs : Loader F QsIn .f32) (ldK : Loader F KIn .fp8e4m3)
  (ldKs : Loader F KsIn .f32) (ldV : Loader F VIn .fp8e4m3) (ldVs : Loader F ⟨3, ![1, 1, 256]⟩ .f32)
  (ldL : Fin 4 → Loader F Row .f32) (ldTri : Loader F ⟨2, ![128, 128]⟩ .f32) (ldGb : Loader F ⟨2, ![256, 128]⟩ .f32)
  (rdE : List (View.Piece (Elt F) EScr .f32) → Loader F EScr .f32)
  (rdK : List (View.Piece (Elt F) KScr .f32) → Loader F KScr .f32)
  (rdV : List (View.Piece (Elt F) VScr .bf16) → Loader F VScr .bf16)
  (rdVs : List (View.Piece (Elt F) ⟨2, ![256, 128]⟩ .f32) → Loader F ⟨2, ![256, 128]⟩ .f32)

/-- The scratch's pieces before the exponentials of step `t`: the scores of steps `0 … t + 1`, the exponentials
of the steps before. -/
def preE (t : ℕ) : t < 8 → List (View.Piece (Elt F) EScr .f32) :=
  Nat.rec (motive := fun t => t < 8 → List (View.Piece (Elt F) EScr .f32))
    (fun _ => scoresL ldQ ldK ldKs ldTri rdK 1 (unitAt 1) (by decide) (unitAt_lt (by decide))
      (scoresL ldQ ldK ldKs ldTri rdK 0 (unitAt 0) (by decide) (unitAt_lt (by decide)) []))
    (fun t ih h =>
      let E := eStage ldQ ldQs ldK ldKs ldTri rdE rdK (t % 2) (unitAt t) (Nat.mod_lt _ (by decide)) (unitAt_lt (Nat.lt_of_succ_lt h))
        (ih (Nat.lt_of_succ_lt h)) 4 (le_refl _)
      if h' : t + 2 < 8 then
        scoresL ldQ ldK ldKs ldTri rdK ((t + 2) % 2) (unitAt (t + 2)) (Nat.mod_lt _ (by decide)) (unitAt_lt h') E
      else E) t

/-- The output's pieces after `t` steps. -/
def outL (t : ℕ) : t ≤ 8 → List (View.Piece (Elt F) OutB .bf16) :=
  Nat.rec (motive := fun t => t ≤ 8 → List (View.Piece (Elt F) OutB .bf16)) (fun _ => [])
    (fun t ih h => unitOut ldQ ldQs ldK ldKs ldV ldVs ldL ldTri ldGb rdE rdK rdV rdVs (t % 2) (Nat.mod_lt _ (by decide))
      (preE ldQ ldQs ldK ldKs ldTri rdE rdK t h) (unitAt t) (unitAt_lt h) (ih (Nat.le_of_succ_le h))) t

end Run

end DiffAttn

end
-- ==== Proof.TieA.lean ====
module

public import proofs.«01_k».proof.Proof.Gen.KernelIdeal.Frame.RunA
public import proofs.«01_k».proof.Proof.Model

@[expose] public section

/-! The pieces the generated run leaves are the loops' pieces. -/

noncomputable section

namespace DiffAttn

open Idealize.ShloMosaic Idealize.ShloMosaic.TcCoe Idealize.ShloMosaic.Tactic Cert.KernelIdeal Cert.KernelIdeal.Gen

variable {F : FTy → Type} [FloatOps F] [Named F]

/-- Loads of a buffer that holds `x`. -/
def ldW {sp : Space} {s : Shape} {e : EltTy} (a : Memref sig .tc sp s e) (h : a.IsWhole) (x : Vec F s e) : Loader F s e :=
  fun off size hb => View.readAt (Elt F) a.view (Rect.unit off size hb).toLoadRect (h.unread x)

/-- Loads of a buffer that holds what the pieces wrote. -/
def ldP {sp : Space} {s : Shape} {e : EltTy} (a : Memref sig .tc sp s e) (L : List (View.Piece (Elt F) s e)) : Loader F s e :=
  fun off size hb => a.view.readCov L (Rect.unit off size hb).toLoadRect

/-- The mask's one piece. -/
def triL : List (View.Piece (Elt F) S128x128 .f32) := [⟨Rect.unit ![0, 0] S128x128.size (by decide), k0_pay3⟩]

/-- The gain's one piece. -/
def gbL (ldG : Loader F S1x256 .f32) : List (View.Piece (Elt F) S256x128 .f32) :=
  [⟨Rect.unit ![0, 0] S256x128.size (by decide), k0_pay2 (ldG ![0, 0] S1x256.size (by decide))⟩]

theorem tieA (c : Dev nD) (i : grid0.Coords)
    (arg1 : Memref sig .tc .vmem QIn .fp8e4m3) (harg1 : arg1.IsWhole) (arg2 : Memref sig .tc .vmem QsIn .f32) (harg2 : arg2.IsWhole)
    (arg3 : Memref sig .tc .vmem KIn .fp8e4m3) (harg3 : arg3.IsWhole) (arg4 : Memref sig .tc .vmem KsIn .f32) (harg4 : arg4.IsWhole)
    (arg5 : Memref sig .tc .vmem VIn .fp8e4m3) (harg5 : arg5.IsWhole) (arg6 : Memref sig .tc .vmem S1x1x256 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x256 .f32) (harg11 : arg11.IsWhole) (arg12 : Memref sig .tc .vmem OutB .bf16) (harg12 : arg12.IsWhole)
    (arg13 : Memref sig .tc .vmem EScr .f32) (harg13 : arg13.IsWhole) (arg14 : Memref sig .tc .vmem KScr .f32) (harg14 : arg14.IsWhole)
    (arg15 : Memref sig .tc .vmem VScr .bf16) (harg15 : arg15.IsWhole) (arg16 : Memref sig .tc .vmem S256x128 .f32) (harg16 : arg16.IsWhole)
    (arg17 : Memref sig .tc .vmem S256x128 .f32) (harg17 : arg17.IsWhole) (arg18 : Memref sig .tc .vmem S128x128 .f32) (harg18 : arg18.IsWhole)
    (hc0 : cond0_0 i)
    (x0 : Vec F QIn .fp8e4m3) (x1 : Vec F QsIn .f32) (x2 : Vec F KIn .fp8e4m3) (x3 : Vec F KsIn .f32) (x4 : Vec F VIn .fp8e4m3)
    (x5 : Vec F S1x1x256 .f32) (x6 x7 x8 x9 : Vec F S1x128 .f32) (x10 : Vec F S1x256 .f32) :
    (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0
      x0 x1 x2 x3 x4 x5 x6 x7 x8 x9 x10).1 =
    outL (ldW arg1 harg1 x0) (ldW arg2 harg2 x1) (ldW arg3 harg3 x2) (ldW arg4 harg4 x3) (ldW arg5 harg5 x4) (ldW arg6 harg6 x5)
      ![ldW arg7 harg7 x6, ldW arg8 harg8 x7, ldW arg9 harg9 x8, ldW arg10 harg10 x9] (ldP arg18 triL) (ldP arg17 (gbL (ldW arg11 harg11 x10)))
      (ldP arg13) (ldP arg14) (ldP arg15) (ldP arg16) 8 (le_refl _) := by
  sl_kernel_rfl

end DiffAttn

end
-- ==== Proof.TieB.lean ====
module

public import proofs.«01_k».proof.Proof.Gen.KernelIdeal.Frame.RunB
public import proofs.«01_k».proof.Proof.TieA

@[expose] public section

/-! The pieces the generated run leaves are the loops' pieces. -/

noncomputable section

namespace DiffAttn

open Idealize.ShloMosaic Idealize.ShloMosaic.TcCoe Idealize.ShloMosaic.Tactic Cert.KernelIdeal Cert.KernelIdeal.Gen

variable {F : FTy → Type} [FloatOps F] [Named F]

theorem tieB (c : Dev nD) (i : grid0.Coords)
    (arg1 : Memref sig .tc .vmem QIn .fp8e4m3) (harg1 : arg1.IsWhole) (arg2 : Memref sig .tc .vmem QsIn .f32) (harg2 : arg2.IsWhole)
    (arg3 : Memref sig .tc .vmem KIn .fp8e4m3) (harg3 : arg3.IsWhole) (arg4 : Memref sig .tc .vmem KsIn .f32) (harg4 : arg4.IsWhole)
    (arg5 : Memref sig .tc .vmem VIn .fp8e4m3) (harg5 : arg5.IsWhole) (arg6 : Memref sig .tc .vmem S1x1x256 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x256 .f32) (harg11 : arg11.IsWhole) (arg12 : Memref sig .tc .vmem OutB .bf16) (harg12 : arg12.IsWhole)
    (arg13 : Memref sig .tc .vmem EScr .f32) (harg13 : arg13.IsWhole) (arg14 : Memref sig .tc .vmem KScr .f32) (harg14 : arg14.IsWhole)
    (arg15 : Memref sig .tc .vmem VScr .bf16) (harg15 : arg15.IsWhole) (arg16 : Memref sig .tc .vmem S256x128 .f32) (harg16 : arg16.IsWhole)
    (arg17 : Memref sig .tc .vmem S256x128 .f32) (harg17 : arg17.IsWhole) (arg18 : Memref sig .tc .vmem S128x128 .f32) (harg18 : arg18.IsWhole)
    (hc0 : ¬cond0_0 i)
    (x0 : Vec F QIn .fp8e4m3) (x1 : Vec F QsIn .f32) (x2 : Vec F KIn .fp8e4m3) (x3 : Vec F KsIn .f32) (x4 : Vec F VIn .fp8e4m3)
    (x5 : Vec F S1x1x256 .f32) (x6 x7 x8 x9 : Vec F S1x128 .f32) (x10 : Vec F S1x256 .f32) (xs4 : Vec F S256x128 .f32) (xs5 : Vec F S128x128 .f32) :
    (kernelRun0_B c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0
      x0 x1 x2 x3 x4 x5 x6 x7 x8 x9 x10 xs4 xs5).1 =
    outL (ldW arg1 harg1 x0) (ldW arg2 harg2 x1) (ldW arg3 harg3 x2) (ldW arg4 harg4 x3) (ldW arg5 harg5 x4) (ldW arg6 harg6 x5)
      ![ldW arg7 harg7 x6, ldW arg8 harg8 x7, ldW arg9 harg9 x8, ldW arg10 harg10 x9] (ldW arg18 harg18 xs5) (ldW arg17 harg17 xs4)
      (ldP arg13) (ldP arg14) (ldP arg15) (ldP arg16) 8 (le_refl _) := by
  sl_kernel_rfl

end DiffAttn

end
-- ==== Proof.SemA.lean ====
module

public import proofs.«01_k».proof.Proof.Model
public import proofs.«01_k».proof.Proof.At
public import Idealize.ShloMosaic.Lib.Pointwise
public import Idealize.ShloMosaic.Lib.WritesUnit

@[expose] public section

/-! Reading the model's piece lists on the extended reals: arrays by natural-number coordinates, a piece list by the
last box that covers an index. -/

noncomputable section

namespace DiffAttn

open Idealize.ShloMosaic Idealize.ShloMosaic.TcCoe Cert.KernelIdeal Cert.KernelIdeal.Gen

/-! ### Piece lists -/

instance : ∀ e, Nonempty (Elt Ideal e) := inferInstance

/-- A list's last piece at an index: its payload inside its box, the earlier pieces elsewhere. -/
theorem canon_unit {s : Shape} {e : EltTy} (off size : Fin s.rank → ℕ) (h : ∀ a, off a + size a ≤ s.size a)
    (f : (⟨s.rank, size⟩ : Shape).Idx → Elt Ideal e) (L : List (View.Piece (Elt Ideal) s e)) (y : s.Idx) :
    View.canon (⟨Rect.unit off size h, f⟩ :: L) y =
      if hy : ∀ a, off a ≤ (y a).val ∧ (y a).val < off a + size a then
        f (fun a => ⟨(y a).val - off a, by have := hy a; show _ < size a; omega⟩)
      else View.canon L y := by
  split
  · next hy =>
    have hx : y = (Rect.unit off size h).emb (fun a => ⟨(y a).val - off a, by have := hy a; show _ < size a; omega⟩) := by
      funext a
      refine Fin.ext ?_
      have := hy a
      rw [Rect.emb_apply]
      show (y a).val = off a + 1 * ((y a).val - off a)
      omega
    conv_lhs => rw [hx]
    exact View.canon_cons_emb (Rect.unit off size h) f L _
  · next hy =>
    refine View.canon_cons_of_not_mem _ L ?_
    rw [Rect.mem_set_unit]
    exact hy

/-- Loading from an array. -/
def ofArr {s : Shape} {e : EltTy} (X : s.Idx → Elt Ideal e) : Loader Ideal s e :=
  fun off size h j => X ((Rect.unit off size h).emb j)

/-- Loading from a list of pieces. -/
def ofPieces {s : Shape} {e : EltTy} (L : List (View.Piece (Elt Ideal) s e)) : Loader Ideal s e :=
  ofArr (View.canon L)

theorem ofPieces_apply {s : Shape} {e : EltTy} (L : List (View.Piece (Elt Ideal) s e)) (off size : Fin s.rank → ℕ)
    (h : ∀ a, off a + size a ≤ s.size a) (j : (⟨s.rank, size⟩ : Shape).Idx) :
    ofPieces L off size h j = View.canon L ((Rect.unit off size h).emb j) := rfl

theorem emb_at2 {n0 n1 : ℕ} (X : (⟨2, ![n0, n1]⟩ : Shape).Idx → EReal) (o0 o1 z0 z1 : ℕ)
    (h : ∀ a, (![o0, o1] : Fin 2 → ℕ) a + (![z0, z1] : Fin 2 → ℕ) a ≤ (![n0, n1] : Fin 2 → ℕ) a) (j : (⟨2, ![z0, z1]⟩ : Shape).Idx) :
    X ((Rect.unit (s := ⟨2, ![n0, n1]⟩) ![o0, o1] ![z0, z1] h).emb j) = at2 X (o0 + (j 0).val) (o1 + (j 1).val) := by
  refine eq_at2 X _ _ _ ?_ ?_ <;> rw [Rect.emb_apply] <;> simp [Rect.unit]

theorem ofArr2 {n0 n1 : ℕ} (X : (⟨2, ![n0, n1]⟩ : Shape).Idx → Elt Ideal .f32) (o0 o1 z0 z1 : ℕ)
    (h : ∀ a, (![o0, o1] : Fin 2 → ℕ) a + (![z0, z1] : Fin 2 → ℕ) a ≤ (![n0, n1] : Fin 2 → ℕ) a) (j : (⟨2, ![z0, z1]⟩ : Shape).Idx) :
    ofArr (e := .f32) (s := ⟨2, ![n0, n1]⟩) X ![o0, o1] ![z0, z1] h j = at2 X (o0 + (j 0).val) (o1 + (j 1).val) :=
  emb_at2 X o0 o1 z0 z1 h j

theorem ofArr2b {n0 n1 : ℕ} (X : (⟨2, ![n0, n1]⟩ : Shape).Idx → Elt Ideal .bf16) (o0 o1 z0 z1 : ℕ)
    (h : ∀ a, (![o0, o1] : Fin 2 → ℕ) a + (![z0, z1] : Fin 2 → ℕ) a ≤ (![n0, n1] : Fin 2 → ℕ) a) (j : (⟨2, ![z0, z1]⟩ : Shape).Idx) :
    ofArr (e := .bf16) (s := ⟨2, ![n0, n1]⟩) X ![o0, o1] ![z0, z1] h j = at2 X (o0 + (j 0).val) (o1 + (j 1).val) :=
  emb_at2 X o0 o1 z0 z1 h j

theorem emb_at3 {n0 n1 n2 : ℕ} (X : (⟨3, ![n0, n1, n2]⟩ : Shape).Idx → EReal) (o0 o1 o2 z0 z1 z2 : ℕ)
    (h : ∀ a, (![o0, o1, o2] : Fin 3 → ℕ) a + (![z0, z1, z2] : Fin 3 → ℕ) a ≤ (![n0, n1, n2] : Fin 3 → ℕ) a) (j : (⟨3, ![z0, z1, z2]⟩ : Shape).Idx) :
    X ((Rect.unit (s := ⟨3, ![n0, n1, n2]⟩) ![o0, o1, o2] ![z0, z1, z2] h).emb j) = at3 X (o0 + (j 0).val) (o1 + (j 1).val) (o2 + (j 2).val) := by
  refine eq_at3 X _ _ _ _ ?_ ?_ ?_ <;> rw [Rect.emb_apply] <;> simp [Rect.unit]

theorem ofArr3 {n0 n1 n2 : ℕ} (X : (⟨3, ![n0, n1, n2]⟩ : Shape).Idx → Elt Ideal .f32) (o0 o1 o2 z0 z1 z2 : ℕ)
    (h : ∀ a, (![o0, o1, o2] : Fin 3 → ℕ) a + (![z0, z1, z2] : Fin 3 → ℕ) a ≤ (![n0, n1, n2] : Fin 3 → ℕ) a) (j : (⟨3, ![z0, z1, z2]⟩ : Shape).Idx) :
    ofArr (e := .f32) (s := ⟨3, ![n0, n1, n2]⟩) X ![o0, o1, o2] ![z0, z1, z2] h j = at3 X (o0 + (j 0).val) (o1 + (j 1).val) (o2 + (j 2).val) :=
  emb_at3 X o0 o1 o2 z0 z1 z2 h j

theorem ofArr3q {n0 n1 n2 : ℕ} (X : (⟨3, ![n0, n1, n2]⟩ : Shape).Idx → Elt Ideal .fp8e4m3) (o0 o1 o2 z0 z1 z2 : ℕ)
    (h : ∀ a, (![o0, o1, o2] : Fin 3 → ℕ) a + (![z0, z1, z2] : Fin 3 → ℕ) a ≤ (![n0, n1, n2] : Fin 3 → ℕ) a) (j : (⟨3, ![z0, z1, z2]⟩ : Shape).Idx) :
    ofArr (e := .fp8e4m3) (s := ⟨3, ![n0, n1, n2]⟩) X ![o0, o1, o2] ![z0, z1, z2] h j = at3 X (o0 + (j 0).val) (o1 + (j 1).val) (o2 + (j 2).val) :=
  emb_at3 X o0 o1 o2 z0 z1 z2 h j

theorem emb_at4 {n0 n1 n2 n3 : ℕ} (X : (⟨4, ![n0, n1, n2, n3]⟩ : Shape).Idx → EReal) (o0 o1 o2 o3 z0 z1 z2 z3 : ℕ)
    (h : ∀ a, (![o0, o1, o2, o3] : Fin 4 → ℕ) a + (![z0, z1, z2, z3] : Fin 4 → ℕ) a ≤ (![n0, n1, n2, n3] : Fin 4 → ℕ) a) (j : (⟨4, ![z0, z1, z2, z3]⟩ : Shape).Idx) :
    X ((Rect.unit (s := ⟨4, ![n0, n1, n2, n3]⟩) ![o0, o1, o2, o3] ![z0, z1, z2, z3] h).emb j) = at4 X (o0 + (j 0).val) (o1 + (j 1).val) (o2 + (j 2).val) (o3 + (j 3).val) := by
  refine eq_at4 X _ _ _ _ _ ?_ ?_ ?_ ?_ <;> rw [Rect.emb_apply] <;> simp [Rect.unit]

theorem ofArr4 {n0 n1 n2 n3 : ℕ} (X : (⟨4, ![n0, n1, n2, n3]⟩ : Shape).Idx → Elt Ideal .f32) (o0 o1 o2 o3 z0 z1 z2 z3 : ℕ)
    (h : ∀ a, (![o0, o1, o2, o3] : Fin 4 → ℕ) a + (![z0, z1, z2, z3] : Fin 4 → ℕ) a ≤ (![n0, n1, n2, n3] : Fin 4 → ℕ) a) (j : (⟨4, ![z0, z1, z2, z3]⟩ : Shape).Idx) :
    ofArr (e := .f32) (s := ⟨4, ![n0, n1, n2, n3]⟩) X ![o0, o1, o2, o3] ![z0, z1, z2, z3] h j = at4 X (o0 + (j 0).val) (o1 + (j 1).val) (o2 + (j 2).val) (o3 + (j 3).val) :=
  emb_at4 X o0 o1 o2 o3 z0 z1 z2 z3 h j

theorem ofArr4q {n0 n1 n2 n3 : ℕ} (X : (⟨4, ![n0, n1, n2, n3]⟩ : Shape).Idx → Elt Ideal .fp8e4m3) (o0 o1 o2 o3 z0 z1 z2 z3 : ℕ)
    (h : ∀ a, (![o0, o1, o2, o3] : Fin 4 → ℕ) a + (![z0, z1, z2, z3] : Fin 4 → ℕ) a ≤ (![n0, n1, n2, n3] : Fin 4 → ℕ) a) (j : (⟨4, ![z0, z1, z2, z3]⟩ : Shape).Idx) :
    ofArr (e := .fp8e4m3) (s := ⟨4, ![n0, n1, n2, n3]⟩) X ![o0, o1, o2, o3] ![z0, z1, z2, z3] h j = at4 X (o0 + (j 0).val) (o1 + (j 1).val) (o2 + (j 2).val) (o3 + (j 3).val) :=
  emb_at4 X o0 o1 o2 o3 z0 z1 z2 z3 h j

/-! ### The three scratch arrays of the group -/

theorem ksTile_apply (xKs : KsIn.Idx → Elt Ideal .f32) (c j : ℕ) (hc : c < 2) (hj : j < 8) (x : (⟨3, ![1, 128, 128]⟩ : Shape).Idx) :
    ksTile (ofArr xKs) c j hc hj x = at3 xKs 0 c (j * 128 + (x 1).val) := by
  unfold ksTile
  pointwise
  rw [ofArr3]
  simp

theorem canon_ksTiles (xKs : KsIn.Idx → Elt Ideal .f32) (c : ℕ) (hc : c < 2) (L : List (View.Piece (Elt Ideal) KScr .f32)) (n : ℕ)
    (hn : n ≤ 8) (y : KScr.Idx) :
    View.canon (ksTiles (ofArr xKs) c hc L n hn) y =
      if (y 0).val = c ∧ (y 1).val < n * 128 then at3 xKs 0 c (y 1).val else View.canon L y := by
  induction n with
  | zero => simp [ksTiles]
  | succ n ih =>
    show View.canon (⟨Rect.unit ![c, n * 128, 0] ![1, 128, 128] (kscr_inb hc hn), ksTile (ofArr xKs) c n hc hn⟩ ::
      ksTiles (ofArr xKs) c hc L n (Nat.le_of_succ_le hn)) y = _
    rw [canon_unit, ih]
    have h2 : (y 2).val < 128 := (y 2).isLt
    by_cases hy : (y 0).val = c ∧ n * 128 ≤ (y 1).val ∧ (y 1).val < n * 128 + 128
    · rw [dif_pos, if_pos ⟨hy.1, by omega⟩, ksTile_apply]
      · congr 1
        show n * 128 + ((y 1).val - n * 128) = _
        omega
      · intro a
        fin_cases a
        · show c ≤ (y 0).val ∧ (y 0).val < c + 1; omega
        · show n * 128 ≤ (y 1).val ∧ (y 1).val < n * 128 + 128; omega
        · show 0 ≤ (y 2).val ∧ (y 2).val < 0 + 128; omega
    · rw [dif_neg]
      · by_cases hz : (y 0).val = c ∧ (y 1).val < n * 128
        · rw [if_pos hz, if_pos ⟨hz.1, by omega⟩]
        · rw [if_neg hz, if_neg]; omega
      · intro h
        have h0 : c ≤ (y 0).val ∧ (y 0).val < c + 1 := h 0
        have h1 : n * 128 ≤ (y 1).val ∧ (y 1).val < n * 128 + 128 := h 1
        omega

theorem canon_ksL (xKs : KsIn.Idx → Elt Ideal .f32) (y : KScr.Idx) :
    View.canon (ksL (ofArr xKs)) y = at3 xKs 0 (y 0).val (y 1).val := by
  have h0 : (y 0).val < 2 := (y 0).isLt
  have h1 : (y 1).val < 1024 := (y 1).isLt
  unfold ksL
  rw [canon_ksTiles, canon_ksTiles]
  by_cases h : (y 0).val = 1
  · rw [if_pos ⟨h, by omega⟩, h]
  · rw [if_neg (by omega), if_pos ⟨by omega, by omega⟩]
    congr 1; omega

theorem canon_vsL (xVs : (⟨3, ![1, 1, 256]⟩ : Shape).Idx → Elt Ideal .f32) (y : (⟨2, ![256, 128]⟩ : Shape).Idx) :
    View.canon (vsL (ofArr xVs)) y = at3 xVs 0 0 (y 0).val := by
  unfold vsL
  rw [canon_unit, dif_pos]
  · pointwise
    rw [ofArr3]
    simp
  · intro a
    fin_cases a
    · exact ⟨Nat.zero_le _, by show (y 0).val < 0 + 256; have : (y 0).val < 256 := (y 0).isLt; omega⟩
    · exact ⟨Nat.zero_le _, by show (y 1).val < 0 + 128; have : (y 1).val < 128 := (y 1).isLt; omega⟩

theorem vTile_apply (xV : VIn.Idx → Elt Ideal .fp8e4m3) (b : ℕ) (hb : b < 8 / 2) (x : (⟨2, ![256, 256]⟩ : Shape).Idx) :
    vTile (ofArr xV) b hb x = at3 xV 0 (b * 256 + (x 1).val) (x 0).val := by
  unfold vTile
  pointwise
  rw [ofArr3q]
  simp

theorem canon_vL (xV : VIn.Idx → Elt Ideal .fp8e4m3) (n : ℕ) (hn : n ≤ 8 / 2) (y : VScr.Idx) (hy : (y 1).val < n * 256) :
    View.canon (vL (ofArr xV) n hn) y = at3 xV 0 (y 1).val (y 0).val := by
  induction n with
  | zero => omega
  | succ n ih =>
    show View.canon (⟨Rect.unit ![0, n * 256] ![256, 256] (vt_inb (b := n) (by have : n < 8 / 2 := hn; omega)), vTile (ofArr xV) n hn⟩ ::
      vL (ofArr xV) n (Nat.le_of_succ_le hn)) y = _
    rw [canon_unit]
    have h0 : (y 0).val < 256 := (y 0).isLt
    by_cases h : n * 256 ≤ (y 1).val
    · rw [dif_pos, vTile_apply]
      · congr 1
        show n * 256 + ((y 1).val - n * 256) = _
        omega
      · intro a
        fin_cases a
        · show 0 ≤ (y 0).val ∧ (y 0).val < 0 + 256; omega
        · show n * 256 ≤ (y 1).val ∧ (y 1).val < n * 256 + 256; omega
    · rw [dif_neg, ih]
      · omega
      · intro h'
        have h1 : n * 256 ≤ (y 1).val ∧ (y 1).val < n * 256 + 256 := h' 1
        omega

end DiffAttn

end
-- ==== Proof.SemB.lean ====
module

public import proofs.«01_k».proof.Proof.SemA
public import Idealize.ShloMosaic.Lib.ValueIdx
public import Idealize.ShloMosaic.Lib.Pointwise.IndexVar

@[expose] public section

/-! The scores of a unit, read on the extended reals. -/

noncomputable section

namespace DiffAttn

open Idealize.ShloMosaic Idealize.ShloMosaic.TcCoe Cert.KernelIdeal Cert.KernelIdeal.Gen

section Scores

variable (xQ : QIn.Idx → Elt Ideal .fp8e4m3) (xK : KIn.Idx → Elt Ideal .fp8e4m3) (xKs : KsIn.Idx → Elt Ideal .f32)
  (xTri : (⟨2, ![128, 128]⟩ : Shape).Idx → Elt Ideal .f32)

/-- A key's product with a query of block `i`. -/
def dv (c g i t q : ℕ) : EReal := ∑ d : Fin 128, at4 xK 0 c t d.val * at4 xQ g c (i * 128 + q) d.val

/-- That product scaled by the key's scale. -/
def uRv (c g i t q : ℕ) : EReal := dv xQ xK c g i t q * at3 xKs 0 c t

/-- The score as kept: the diagonal block masked. -/
def uv (c g i t q : ℕ) : EReal :=
  if 128 * i ≤ t then min (uRv xQ xK xKs c g i t q) (at2 xTri (t - 128 * i) q) else uRv xQ xK xKs c g i t q

theorem qTile_apply (c i g : ℕ) (hc : c < 2) (hi : i < 8) (hg : g < 2) (x : (⟨2, ![128, 128]⟩ : Shape).Idx) :
    qTile (ofArr xQ) c i g hc hi hg x = at4 xQ g c (i * 128 + (x 0).val) (x 1).val := by
  unfold qTile
  pointwise
  rw [ofArr4q]
  simp

theorem qt_apply (c i : ℕ) (hc : c < 2) (hi : i < 8) (x : (⟨2, ![256, 128]⟩ : Shape).Idx) :
    qt (ofArr xQ) c i hc hi x = at4 xQ ((x 0).val / 128) c (i * 128 + (x 0).val % 128) (x 1).val := by
  have h0 : (x 0).val < 256 := (x 0).isLt
  unfold qt
  pointwise
  split
  · next h =>
    rw [qTile_apply, show (x 0).val / 128 = 0 by omega, Nat.mod_eq_of_lt h]
    rfl
  · next h =>
    rw [qTile_apply, show (x 0).val / 128 = 1 by omega, show (x 0).val % 128 = (x 0).val - 128 by omega]
    rfl

theorem cast4_2 (n : ℕ) (h : (⟨2, ![n, 128]⟩ : Shape).numel = (⟨4, ![1, 1, n, 128]⟩ : Shape).numel) (t : Fin n) (d : Fin 128) :
    Shape.reshapeEquiv h (ix2 t d) = ix4 (0 : Fin 1) (0 : Fin 1) t d := by
  apply Shape.reshapeEquiv_eq_of_rowMajor
  rw [Shape.rowMajor_val_four, Shape.rowMajor_val_two]
  simp

theorem dmat_apply (c i : ℕ) (hc : c < 2) (hi : i < 8) (t : Fin ((i + 1) * 128)) (x : Fin 256) :
    dmat (ofArr xQ) (ofArr xK) c i hc hi (ix2 t x) = dv xQ xK c (x.val / 128) i t.val (x.val % 128) := by
  unfold dmat dv
  pointwise
  refine Finset.sum_congr rfl fun d _ => ?_
  rw [cast4_2, ofArr4q, qt_apply]
  simp

theorem uRaw_apply (c i g k : ℕ) (hc : c < 2) (hi : i < 8) (hg : g < 2) (hk : k < 4 * (i + 1)) (x : Chunk.Idx) :
    uRaw (ofArr xQ) (ofArr xK) (ofArr xKs) ofPieces c i g k hc hi hg hk x = uRv xQ xK xKs c g i (32 * k + (x 0).val) (x 1).val := by
  have h0 : (x 0).val < 32 := (x 0).isLt
  have h1 : (x 1).val < 128 := (x 1).isLt
  have hd : extractStridedSlice Chunk ![32 * k, g * 128] (dmat (ofArr xQ) (ofArr xK) c i hc hi)
      (slice_fits (r := 32 * k) (c := g * 128) (by omega) (by omega)) x
      = dv xQ xK c g i (32 * k + (x 0).val) (x 1).val := by
    have := dmat_apply xQ xK c i hc hi ⟨32 * k + (x 0).val, by omega⟩ ⟨g * 128 + (x 1).val, by omega⟩
    rw [show (g * 128 + (x 1).val) / 128 = g by omega, show (g * 128 + (x 1).val) % 128 = (x 1).val by omega] at this
    rw [← this]
    refine congrArg (dmat (ofArr xQ) (ofArr xK) c i hc hi) (funext fun a => ?_)
    fin_cases a <;> rfl
  have hk' : shapeCast Chunk (ofPieces (ksL (ofArr xKs)) ![c, 32 * k, 0] ![1, 32, 128] (kc_inb (k := k) hc (by omega))) (by decide) x
      = at3 xKs 0 c (32 * k + (x 0).val) := by
    pointwise
    rw [ofPieces_apply, canon_ksL]
    congr 1
    show 32 * k + 1 * (x 0).val = _
    omega
  show extractStridedSlice Chunk ![32 * k, g * 128] (dmat (ofArr xQ) (ofArr xK) c i hc hi)
      (slice_fits (r := 32 * k) (c := g * 128) (by omega) (by omega)) x * shapeCast Chunk _ _ x = _
  rw [hd]
  exact congrArg _ hk'

theorem uC_apply (c i g k : ℕ) (hc : c < 2) (hi : i < 8) (hg : g < 2) (hk : k < 4 * (i + 1)) (x : Chunk.Idx) :
    uC (ofArr xQ) (ofArr xK) (ofArr xKs) (ofArr xTri) ofPieces c i g k hc hi hg hk x =
      uv xQ xK xKs xTri c g i (32 * k + (x 0).val) (x 1).val := by
  have h0 : (x 0).val < 32 := (x 0).isLt
  unfold uC uv
  by_cases h : 4 * i ≤ k
  · rw [dif_pos h, if_pos (by omega)]
    show min (uRaw (ofArr xQ) (ofArr xK) (ofArr xKs) ofPieces c i g k hc hi hg hk x) (ofArr xTri _ _ _ x) = _
    rw [uRaw_apply]
    refine congrArg _ ((ofArr2 xTri (32 * k - 128 * i) 0 32 128 (tri_inb h hk) x).trans ?_)
    congr 1
    · omega
    · omega
  · rw [dif_neg h, if_neg (by omega), uRaw_apply]

/-- A list of chunk pieces at an index: the last chunk's payload on it, the earlier pieces elsewhere. -/
theorem canon_chunk (slot c k g : ℕ) (hi : ∀ a, (![slot, c, 32 * k, g * 128] : Fin 4 → ℕ) a + Blk.size a ≤ EScr.size a)
    (f : FVec Ideal Chunk .f32) (hh : Chunk.ShapeCasts Blk) (L : List (View.Piece (Elt Ideal) EScr .f32)) (y : EScr.Idx) :
    View.canon (⟨Rect.unit (s := EScr) ![slot, c, 32 * k, g * 128] Blk.size hi, shapeCast Blk f hh⟩ :: L) y =
      if (y 0).val = slot ∧ (y 1).val = c ∧ (32 * k ≤ (y 2).val ∧ (y 2).val < 32 * k + 32) ∧ (y 3).val / 128 = g then
        at2 f ((y 2).val - 32 * k) ((y 3).val % 128)
      else View.canon L y := by
  have h3 : (y 3).val < 256 := (y 3).isLt
  rw [canon_unit]
  by_cases h : (y 0).val = slot ∧ (y 1).val = c ∧ (32 * k ≤ (y 2).val ∧ (y 2).val < 32 * k + 32) ∧ (y 3).val / 128 = g
  · rw [if_pos h, dif_pos]
    · pointwise
      refine eq_at2 f _ _ _ rfl ?_
      show (y 3).val - g * 128 = (y 3).val % 128
      omega
    · intro a
      fin_cases a
      · show slot ≤ (y 0).val ∧ (y 0).val < slot + 1; omega
      · show c ≤ (y 1).val ∧ (y 1).val < c + 1; omega
      · show 32 * k ≤ (y 2).val ∧ (y 2).val < 32 * k + 32; omega
      · show g * 128 ≤ (y 3).val ∧ (y 3).val < g * 128 + 128; omega
  · rw [if_neg h, dif_neg]
    intro h'
    have a0 : slot ≤ (y 0).val ∧ (y 0).val < slot + 1 := h' 0
    have a1 : c ≤ (y 1).val ∧ (y 1).val < c + 1 := h' 1
    have a2 : 32 * k ≤ (y 2).val ∧ (y 2).val < 32 * k + 32 := h' 2
    have a3 : g * 128 ≤ (y 3).val ∧ (y 3).val < g * 128 + 128 := h' 3
    omega

theorem at2_of_apply {n0 n1 : ℕ} (f : (⟨2, ![n0, n1]⟩ : Shape).Idx → EReal) (v : ℕ → ℕ → EReal)
    (h : ∀ x, f x = v (x 0).val (x 1).val) {a b : ℕ} (ha : a < n0) (hb : b < n1) : at2 f a b = v a b := by
  rw [at2, dif_pos ⟨ha, hb⟩, h]
  rfl

theorem canon_uL (slot c i g : ℕ) (hs : slot < 2) (hc : c < 2) (hi : i < 8) (hg : g < 2) (L : List (View.Piece (Elt Ideal) EScr .f32))
    (n : ℕ) (hn : n ≤ 4 * (i + 1)) (y : EScr.Idx) :
    View.canon (uL (ofArr xQ) (ofArr xK) (ofArr xKs) (ofArr xTri) ofPieces slot c i g hs hc hi hg L n hn) y =
      if (y 0).val = slot ∧ (y 1).val = c ∧ (y 2).val < 32 * n ∧ (y 3).val / 128 = g then
        uv xQ xK xKs xTri c g i (y 2).val ((y 3).val % 128)
      else View.canon L y := by
  induction n with
  | zero => simp [uL]
  | succ n ih =>
    show View.canon (⟨Rect.unit (s := EScr) ![slot, c, 32 * n, g * 128] Blk.size (e_inb hs hc (by omega) hg),
      shapeCast Blk (uC (ofArr xQ) (ofArr xK) (ofArr xKs) (ofArr xTri) ofPieces c i g n hc hi hg hn) (by decide)⟩ ::
      uL (ofArr xQ) (ofArr xK) (ofArr xKs) (ofArr xTri) ofPieces slot c i g hs hc hi hg L n (Nat.le_of_succ_le hn)) y = _
    rw [canon_chunk, ih]
    by_cases h : (y 0).val = slot ∧ (y 1).val = c ∧ (32 * n ≤ (y 2).val ∧ (y 2).val < 32 * n + 32) ∧ (y 3).val / 128 = g
    · rw [if_pos h, if_pos ⟨h.1, h.2.1, by omega, h.2.2.2⟩,
        at2_of_apply _ (fun a b => uv xQ xK xKs xTri c g i (32 * n + a) b) (fun x => uC_apply xQ xK xKs xTri c i g n hc hi hg hn x)
          (by omega) (Nat.mod_lt _ (by decide))]
      show uv xQ xK xKs xTri c g i (32 * n + ((y 2).val - 32 * n)) _ = _
      rw [show 32 * n + ((y 2).val - 32 * n) = (y 2).val by omega]
    · rw [if_neg h]
      by_cases h' : (y 0).val = slot ∧ (y 1).val = c ∧ (y 2).val < 32 * n ∧ (y 3).val / 128 = g
      · rw [if_pos h', if_pos ⟨h'.1, h'.2.1, by omega, h'.2.2.2⟩]
      · rw [if_neg h', if_neg]
        omega

theorem macc_le (c i g : ℕ) (hc : c < 2) (hi : i < 8) (hg : g < 2) (n : ℕ) (hn : n < 4 * (i + 1)) (x : Chunk.Idx) (b : EReal) :
    macc (ofArr xQ) (ofArr xK) (ofArr xKs) (ofArr xTri) ofPieces c i g hc hi hg n hn x ≤ b ↔
      ∀ k, k ≤ n → uv xQ xK xKs xTri c g i (32 * k + (x 0).val) (x 1).val ≤ b := by
  induction n with
  | zero =>
    show uC (ofArr xQ) (ofArr xK) (ofArr xKs) (ofArr xTri) ofPieces c i g 0 hc hi hg hn x ≤ b ↔ _
    rw [uC_apply]
    constructor
    · intro h k hk; obtain rfl : k = 0 := by omega
      exact h
    · intro h; exact h 0 (le_refl _)
  | succ n ih =>
    show max (macc (ofArr xQ) (ofArr xK) (ofArr xKs) (ofArr xTri) ofPieces c i g hc hi hg n (Nat.lt_of_succ_lt hn) x)
      (uC (ofArr xQ) (ofArr xK) (ofArr xKs) (ofArr xTri) ofPieces c i g (n + 1) hc hi hg hn x) ≤ b ↔ _
    rw [max_le_iff, ih, uC_apply]
    constructor
    · rintro ⟨h1, h2⟩ k hk
      rcases Nat.lt_or_ge k (n + 1) with h | h
      · exact h1 k (by omega)
      · obtain rfl : k = n + 1 := by omega
        exact h2
    · intro h
      exact ⟨fun k hk => h k (by omega), h (n + 1) (le_refl _)⟩

theorem negInf : Ideal.ofBits .f32 0xFF800000#32 = ⊥ := by
  simp [Ideal.ofBits, Ideal.ieee]

/-- The least upper bound of a query's kept scores, by its property. -/
theorem mx_le (c i g : ℕ) (hc : c < 2) (hi : i < 8) (hg : g < 2) (x : Row.Idx) (b : EReal) :
    mx (ofArr xQ) (ofArr xK) (ofArr xKs) (ofArr xTri) ofPieces c i g hc hi hg x ≤ b ↔
      ∀ t, t < 128 * (i + 1) → uv xQ xK xKs xTri c g i t (x 1).val ≤ b := by
  unfold mx
  pointwise
  rw [Finset.fold_max_le]
  simp only [macc_le]
  constructor
  · rintro ⟨-, h⟩ t ht
    have := h ⟨t % 32, Nat.mod_lt _ (by decide)⟩ (Finset.mem_univ _) (t / 32) (by omega)
    have e : 32 * (t / 32) + t % 32 = t := by omega
    simpa [e] using this
  · intro h
    refine ⟨by rw [negInf]; exact bot_le, fun r _ k hk => h _ ?_⟩
    have : r.val < 32 := r.isLt
    show 32 * k + r.val < _
    omega

theorem canon_scoresL (slot i : ℕ) (hs : slot < 2) (hi : i < 8) (L : List (View.Piece (Elt Ideal) EScr .f32)) (y : EScr.Idx) :
    View.canon (scoresL (ofArr xQ) (ofArr xK) (ofArr xKs) (ofArr xTri) ofPieces slot i hs hi L) y =
      if (y 0).val = slot ∧ (y 2).val < 128 * (i + 1) then
        uv xQ xK xKs xTri (y 1).val ((y 3).val / 128) i (y 2).val ((y 3).val % 128)
      else View.canon L y := by
  have h1 : (y 1).val < 2 := (y 1).isLt
  have h3 : (y 3).val < 256 := (y 3).isLt
  unfold scoresL
  simp only [canon_uL]
  by_cases h : (y 0).val = slot ∧ (y 2).val < 128 * (i + 1)
  · rw [if_pos h]
    have hc : (y 1).val = 0 ∨ (y 1).val = 1 := by omega
    have hg : (y 3).val / 128 = 0 ∨ (y 3).val / 128 = 1 := by omega
    have h2 : (y 2).val < 32 * (4 * (i + 1)) := by omega
    rcases hc with hc | hc <;> rcases hg with hg | hg <;> simp [hc, hg, h.1, h2]
  · rw [if_neg h, if_neg (by omega), if_neg (by omega), if_neg (by omega), if_neg (by omega)]

end Scores

end DiffAttn

end
-- ==== Proof.SemC.lean ====
module

public import proofs.«01_k».proof.Proof.SemB

@[expose] public section

/-! The exponentials of a unit and their sums, read on the extended reals. -/

noncomputable section

namespace DiffAttn

open Idealize.ShloMosaic Idealize.ShloMosaic.TcCoe Cert.KernelIdeal Cert.KernelIdeal.Gen

theorem at4_eq {n0 n1 n2 n3 : ℕ} (X : (⟨4, ![n0, n1, n2, n3]⟩ : Shape).Idx → EReal) (y : (⟨4, ![n0, n1, n2, n3]⟩ : Shape).Idx) :
    at4 X (y 0).val (y 1).val (y 2).val (y 3).val = X y := (eq_at4 X y _ _ _ _ rfl rfl rfl rfl).symm

theorem sum_chunks (f : ℕ → EReal) (m : ℕ) :
    ∑ r : Fin 32, ∑ k ∈ Finset.range m, f (32 * k + r.val) = ∑ t ∈ Finset.range (32 * m), f t := by
  induction m with
  | zero => simp
  | succ m ih =>
    simp only [Finset.sum_range_succ, Finset.sum_add_distrib]
    rw [ih, Nat.mul_succ, Finset.sum_range_add, Finset.sum_range (fun x => f (32 * m + x))]

section Exps

variable (xQ : QIn.Idx → Elt Ideal .fp8e4m3) (xQs : QsIn.Idx → Elt Ideal .f32) (xK : KIn.Idx → Elt Ideal .fp8e4m3)
  (xKs : KsIn.Idx → Elt Ideal .f32) (xTri : (⟨2, ![128, 128]⟩ : Shape).Idx → Elt Ideal .f32)

/-- The factor named in the program. -/
def kap : EReal := Named.named (F := Ideal) (φ := .f32) κ "scale_log2" 0x3E0293EE#32

/-- A query's scale times that factor. -/
def avv (c g i q : ℕ) : EReal := at3 xQs g c (i * 128 + q) * kap

/-- The greatest kept score of a query. -/
def mv (c g i q : ℕ) : EReal := (Finset.range (128 * (i + 1))).sup fun t => uv xQ xK xKs xTri c g i t q

/-- A score's exponential. -/
def ev (c g i t q : ℕ) : EReal :=
  Ideal.exp2 (uv xQ xK xKs xTri c g i t q * avv xQs c g i q - avv xQs c g i q * mv xQ xK xKs xTri c g i q)

/-- A query's sum of exponentials. -/
def sv (c g i q : ℕ) : EReal := ∑ t ∈ Finset.range (128 * (i + 1)), ev xQ xQs xK xKs xTri c g i t q

theorem mx_apply (c i g : ℕ) (hc : c < 2) (hi : i < 8) (hg : g < 2) (x : Row.Idx) :
    mx (ofArr xQ) (ofArr xK) (ofArr xKs) (ofArr xTri) ofPieces c i g hc hi hg x = mv xQ xK xKs xTri c g i (x 1).val := by
  refine eq_of_forall_ge_iff fun b => ?_
  rw [mx_le, mv, Finset.sup_le_iff]
  simp only [Finset.mem_range]

theorem av_apply (c i g : ℕ) (hc : c < 2) (hi : i < 8) (hg : g < 2) (x : Row.Idx) :
    av (ofArr xQs) c i g hc hi hg x = avv xQs c g i (x 1).val := by
  have h : shapeCast Row (ofArr xQs ![g, c, i * 128] ![1, 1, 128] (qs_inb hg hc hi)) (by decide) x
      = at3 xQs g c (i * 128 + (x 1).val) := by
    pointwise
    rw [ofArr3]
    simp
  exact congrArg (· * kap) h

theorem bv_apply (c i g : ℕ) (hc : c < 2) (hi : i < 8) (hg : g < 2) (x : Row.Idx) :
    bv (ofArr xQ) (ofArr xQs) (ofArr xK) (ofArr xKs) (ofArr xTri) ofPieces c i g hc hi hg x =
      avv xQs c g i (x 1).val * mv xQ xK xKs xTri c g i (x 1).val := by
  show av (ofArr xQs) c i g hc hi hg x * mx (ofArr xQ) (ofArr xK) (ofArr xKs) (ofArr xTri) ofPieces c i g hc hi hg x = _
  rw [av_apply, mx_apply]

theorem eLd_apply (slot c g k : ℕ) (hs : slot < 2) (hc : c < 2) (hg : g < 2) (hk : 32 * k + 32 ≤ 1024)
    (L : List (View.Piece (Elt Ideal) EScr .f32)) (x : Chunk.Idx) :
    eLd ofPieces slot c g k hs hc hg hk L x =
      at4 (View.canon L : EScr.Idx → Elt Ideal .f32) slot c (32 * k + (x 0).val) (g * 128 + (x 1).val) := by
  unfold eLd
  pointwise
  rw [ofPieces, ofArr4]
  simp

theorem row_bcast (v : FVec Ideal Row .f32) (h : Row.Broadcasts Chunk) (x : Chunk.Idx) : broadcastTo Chunk v h x = v (ix2 (0 : Fin 1) (x 1)) := by
  pointwise

/-- The scratch holds a unit's scores of one component and head. -/
def HasU (slot c i g : ℕ) (L : List (View.Piece (Elt Ideal) EScr .f32)) : Prop :=
  ∀ t q, t < 128 * (i + 1) → q < 128 →
    at4 (View.canon L : EScr.Idx → Elt Ideal .f32) slot c t (g * 128 + q) = uv xQ xK xKs xTri c g i t q

theorem eC_apply (slot c i g k : ℕ) (hs : slot < 2) (hc : c < 2) (hi : i < 8) (hg : g < 2) (hk : 32 * k + 32 ≤ 1024)
    (L : List (View.Piece (Elt Ideal) EScr .f32)) (x : Chunk.Idx)
    (hL : at4 (View.canon L : EScr.Idx → Elt Ideal .f32) slot c (32 * k + (x 0).val) (g * 128 + (x 1).val) =
      uv xQ xK xKs xTri c g i (32 * k + (x 0).val) (x 1).val) :
    eC (ofArr xQ) (ofArr xQs) (ofArr xK) (ofArr xKs) (ofArr xTri) ofPieces ofPieces slot c i g k hs hc hi hg hk L x =
      ev xQ xQs xK xKs xTri c g i (32 * k + (x 0).val) (x 1).val := by
  show Ideal.exp2 (eLd ofPieces slot c g k hs hc hg hk L x * broadcastTo Chunk (av (ofArr xQs) c i g hc hi hg) _ x -
    broadcastTo Chunk (bv (ofArr xQ) (ofArr xQs) (ofArr xK) (ofArr xKs) (ofArr xTri) ofPieces c i g hc hi hg) _ x) = _
  rw [eLd_apply, hL, row_bcast, row_bcast, av_apply, bv_apply]
  rfl

theorem canon_eL (slot c i g : ℕ) (hs : slot < 2) (hc : c < 2) (hi : i < 8) (hg : g < 2) (L : List (View.Piece (Elt Ideal) EScr .f32))
    (hL : HasU xQ xK xKs xTri slot c i g L) (n : ℕ) (hn : n ≤ 4 * (i + 1)) (y : EScr.Idx) :
    View.canon (eL (ofArr xQ) (ofArr xQs) (ofArr xK) (ofArr xKs) (ofArr xTri) ofPieces ofPieces slot c i g hs hc hi hg L n hn) y =
      if (y 0).val = slot ∧ (y 1).val = c ∧ (y 2).val < 32 * n ∧ (y 3).val / 128 = g then
        ev xQ xQs xK xKs xTri c g i (y 2).val ((y 3).val % 128)
      else View.canon L y := by
  induction n generalizing y with
  | zero => simp [eL]
  | succ n ih =>
    show View.canon (⟨Rect.unit (s := EScr) ![slot, c, 32 * n, g * 128] Blk.size (e_inb hs hc (by omega) hg),
      shapeCast Blk (eC (ofArr xQ) (ofArr xQs) (ofArr xK) (ofArr xKs) (ofArr xTri) ofPieces ofPieces slot c i g n hs hc hi hg (by omega)
        (eL (ofArr xQ) (ofArr xQs) (ofArr xK) (ofArr xKs) (ofArr xTri) ofPieces ofPieces slot c i g hs hc hi hg L n (Nat.le_of_succ_le hn)))
        (by decide)⟩ :: eL (ofArr xQ) (ofArr xQs) (ofArr xK) (ofArr xKs) (ofArr xTri) ofPieces ofPieces slot c i g hs hc hi hg L n
          (Nat.le_of_succ_le hn)) y = _
    rw [canon_chunk, ih]
    by_cases h : (y 0).val = slot ∧ (y 1).val = c ∧ (32 * n ≤ (y 2).val ∧ (y 2).val < 32 * n + 32) ∧ (y 3).val / 128 = g
    · rw [if_pos h, if_pos ⟨h.1, h.2.1, by omega, h.2.2.2⟩,
        at2_of_apply _ (fun a b => ev xQ xQs xK xKs xTri c g i (32 * n + a) b) _ (by omega) (Nat.mod_lt _ (by decide))]
      · show ev xQ xQs xK xKs xTri c g i (32 * n + ((y 2).val - 32 * n)) _ = _
        rw [show 32 * n + ((y 2).val - 32 * n) = (y 2).val by omega]
      · intro x
        have h0 : (x 0).val < 32 := (x 0).isLt
        have h1 : (x 1).val < 128 := (x 1).isLt
        refine eC_apply xQ xQs xK xKs xTri slot c i g n hs hc hi hg (by omega) _ x ?_
        rw [← hL (32 * n + (x 0).val) (x 1).val (by omega) h1, at4, dif_pos ⟨hs, hc, by omega, by omega⟩, ih, if_neg, at4,
          dif_pos ⟨hs, hc, by omega, by omega⟩]
        rintro ⟨-, -, h, -⟩
        have h' : 32 * n + (x 0).val < 32 * n := h
        omega
    · rw [if_neg h]
      by_cases h' : (y 0).val = slot ∧ (y 1).val = c ∧ (y 2).val < 32 * n ∧ (y 3).val / 128 = g
      · rw [if_pos h', if_pos ⟨h'.1, h'.2.1, by omega, h'.2.2.2⟩]
      · rw [if_neg h', if_neg]
        omega

/-- Before chunk `n` the scratch still holds that chunk's scores. -/
theorem eL_keeps (slot c i g : ℕ) (hs : slot < 2) (hc : c < 2) (hi : i < 8) (hg : g < 2) (L : List (View.Piece (Elt Ideal) EScr .f32))
    (hL : HasU xQ xK xKs xTri slot c i g L) (n : ℕ) (hn : n < 4 * (i + 1)) (x : Chunk.Idx) :
    at4 (View.canon (eL (ofArr xQ) (ofArr xQs) (ofArr xK) (ofArr xKs) (ofArr xTri) ofPieces ofPieces slot c i g hs hc hi hg L n
      (Nat.le_of_lt hn)) : EScr.Idx → Elt Ideal .f32) slot c (32 * n + (x 0).val) (g * 128 + (x 1).val) =
      uv xQ xK xKs xTri c g i (32 * n + (x 0).val) (x 1).val := by
  have h0 : (x 0).val < 32 := (x 0).isLt
  have h1 : (x 1).val < 128 := (x 1).isLt
  rw [← hL (32 * n + (x 0).val) (x 1).val (by omega) h1, at4, dif_pos ⟨hs, hc, by omega, by omega⟩, canon_eL (hL := hL), if_neg, at4,
    dif_pos ⟨hs, hc, by omega, by omega⟩]
  rintro ⟨-, -, h, -⟩
  have h' : 32 * n + (x 0).val < 32 * n := h
  omega

theorem sacc_apply (slot c i g : ℕ) (hs : slot < 2) (hc : c < 2) (hi : i < 8) (hg : g < 2) (L : List (View.Piece (Elt Ideal) EScr .f32))
    (hL : HasU xQ xK xKs xTri slot c i g L) (n : ℕ) (hn : n < 4 * (i + 1)) (x : Chunk.Idx) :
    sacc (ofArr xQ) (ofArr xQs) (ofArr xK) (ofArr xKs) (ofArr xTri) ofPieces ofPieces slot c i g hs hc hi hg L n hn x =
      ∑ k ∈ Finset.range (n + 1), ev xQ xQs xK xKs xTri c g i (32 * k + (x 0).val) (x 1).val := by
  induction n with
  | zero =>
    rw [Finset.sum_range_one]
    show eC (ofArr xQ) (ofArr xQs) (ofArr xK) (ofArr xKs) (ofArr xTri) ofPieces ofPieces slot c i g 0 hs hc hi hg (by omega) L x = _
    have h0 : (x 0).val < 32 := (x 0).isLt
    have h1 : (x 1).val < 128 := (x 1).isLt
    exact eC_apply xQ xQs xK xKs xTri slot c i g 0 hs hc hi hg (by omega) L x (hL (32 * 0 + (x 0).val) (x 1).val (by omega) h1)
  | succ n ih =>
    show sacc (ofArr xQ) (ofArr xQs) (ofArr xK) (ofArr xKs) (ofArr xTri) ofPieces ofPieces slot c i g hs hc hi hg L n (Nat.lt_of_succ_lt hn) x +
      eC (ofArr xQ) (ofArr xQs) (ofArr xK) (ofArr xKs) (ofArr xTri) ofPieces ofPieces slot c i g (n + 1) hs hc hi hg (by omega)
        (eL (ofArr xQ) (ofArr xQs) (ofArr xK) (ofArr xKs) (ofArr xTri) ofPieces ofPieces slot c i g hs hc hi hg L (n + 1) (Nat.le_of_lt hn)) x = _
    rw [Finset.sum_range_succ, ih, eC_apply xQ xQs xK xKs xTri slot c i g (n + 1) hs hc hi hg (by omega) _ x
      (eL_keeps xQ xQs xK xKs xTri slot c i g hs hc hi hg L hL (n + 1) hn x)]

theorem sm_apply (slot c i g : ℕ) (hs : slot < 2) (hc : c < 2) (hi : i < 8) (hg : g < 2) (L : List (View.Piece (Elt Ideal) EScr .f32))
    (hL : HasU xQ xK xKs xTri slot c i g L) (x : Row.Idx) :
    sm (ofArr xQ) (ofArr xQs) (ofArr xK) (ofArr xKs) (ofArr xTri) ofPieces ofPieces slot c i g hs hc hi hg L x =
      sv xQ xQs xK xKs xTri c g i (x 1).val := by
  unfold sm
  pointwise
  simp only [sacc_apply (hL := hL)]
  exact (sum_chunks (fun t => ev xQ xQs xK xKs xTri c g i t (x 1).val) (4 * i + 4)).trans (by
    rw [show 32 * (4 * i + 4) = 128 * (i + 1) by omega]; rfl)

end Exps

end DiffAttn

end
-- ==== Proof.SemD.lean ====
module

public import proofs.«01_k».proof.Proof.SemC

@[expose] public section

/-! The double-buffered scratch from step to step: each unit's scores are there when its exponentials are taken. -/

noncomputable section

namespace DiffAttn

open Idealize.ShloMosaic Idealize.ShloMosaic.TcCoe Cert.KernelIdeal Cert.KernelIdeal.Gen

section Steps

variable (xQ : QIn.Idx → Elt Ideal .fp8e4m3) (xQs : QsIn.Idx → Elt Ideal .f32) (xK : KIn.Idx → Elt Ideal .fp8e4m3)
  (xKs : KsIn.Idx → Elt Ideal .f32) (xTri : (⟨2, ![128, 128]⟩ : Shape).Idx → Elt Ideal .f32)

/-- The scratch holds a unit's scores. -/
def HasUs (slot i : ℕ) (L : List (View.Piece (Elt Ideal) EScr .f32)) : Prop :=
  ∀ c g, c < 2 → g < 2 → HasU xQ xK xKs xTri slot c i g L

theorem canon_eStage (slot i : ℕ) (hs : slot < 2) (hi : i < 8) (L : List (View.Piece (Elt Ideal) EScr .f32))
    (hL : HasUs xQ xK xKs xTri slot i L) (p : ℕ) (hp : p ≤ 4) (y : EScr.Idx) :
    View.canon (eStage (ofArr xQ) (ofArr xQs) (ofArr xK) (ofArr xKs) (ofArr xTri) ofPieces ofPieces slot i hs hi L p hp) y =
      if (y 0).val = slot ∧ (y 2).val < 128 * (i + 1) ∧ 2 * (y 1).val + (y 3).val / 128 < p then
        ev xQ xQs xK xKs xTri (y 1).val ((y 3).val / 128) i (y 2).val ((y 3).val % 128)
      else View.canon L y := by
  induction p generalizing y with
  | zero => simp [eStage]
  | succ p ih =>
    show View.canon (eL (ofArr xQ) (ofArr xQs) (ofArr xK) (ofArr xKs) (ofArr xTri) ofPieces ofPieces slot (p / 2) i (p % 2) hs (by omega) hi
      (Nat.mod_lt _ (by decide)) (eStage (ofArr xQ) (ofArr xQs) (ofArr xK) (ofArr xKs) (ofArr xTri) ofPieces ofPieces slot i hs hi L p
        (Nat.le_of_succ_le hp)) (4 * (i + 1)) (le_refl _)) y = _
    have hy1 : (y 1).val < 2 := (y 1).isLt
    have hy3 : (y 3).val < 256 := (y 3).isLt
    rw [canon_eL, ih]
    · by_cases h : (y 0).val = slot ∧ (y 1).val = p / 2 ∧ (y 2).val < 32 * (4 * (i + 1)) ∧ (y 3).val / 128 = p % 2
      · rw [if_pos h, if_pos ⟨h.1, by omega, by omega⟩, h.2.1, h.2.2.2]
      · rw [if_neg h]
        by_cases h' : (y 0).val = slot ∧ (y 2).val < 128 * (i + 1) ∧ 2 * (y 1).val + (y 3).val / 128 < p
        · rw [if_pos h', if_pos ⟨h'.1, h'.2.1, by omega⟩]
        · rw [if_neg h', if_neg]
          omega
    · intro t q ht hq
      rw [← hL (p / 2) (p % 2) (by omega) (by omega) t q ht hq, at4, dif_pos ⟨hs, by omega, by omega, by omega⟩, ih, if_neg, at4,
        dif_pos ⟨hs, by omega, by omega, by omega⟩]
      rintro ⟨-, -, h⟩
      have h' : 2 * (p / 2) + (p % 2 * 128 + q) / 128 < p := h
      omega

/-- Before the exponentials of a component and head its scores are still there. -/
theorem eStage_hasU (slot i : ℕ) (hs : slot < 2) (hi : i < 8) (L : List (View.Piece (Elt Ideal) EScr .f32))
    (hL : HasUs xQ xK xKs xTri slot i L) (p : ℕ) (hp : p < 4) :
    HasU xQ xK xKs xTri slot (p / 2) i (p % 2)
      (eStage (ofArr xQ) (ofArr xQs) (ofArr xK) (ofArr xKs) (ofArr xTri) ofPieces ofPieces slot i hs hi L p (Nat.le_of_lt hp)) := by
  intro t q ht hq
  rw [← hL (p / 2) (p % 2) (by omega) (by omega) t q ht hq, at4, dif_pos ⟨hs, by omega, by omega, by omega⟩, canon_eStage (hL := hL), if_neg,
    at4, dif_pos ⟨hs, by omega, by omega, by omega⟩]
  rintro ⟨-, -, h⟩
  have h' : 2 * (p / 2) + (p % 2 * 128 + q) / 128 < p := h
  omega

theorem sumP_apply (slot i p : ℕ) (hs : slot < 2) (hi : i < 8) (hp : p < 4) (L : List (View.Piece (Elt Ideal) EScr .f32))
    (hL : HasUs xQ xK xKs xTri slot i L) (x : Row.Idx) :
    sumP (ofArr xQ) (ofArr xQs) (ofArr xK) (ofArr xKs) (ofArr xTri) ofPieces ofPieces slot i p hs hi hp L x =
      sv xQ xQs xK xKs xTri (p / 2) (p % 2) i (x 1).val := by
  unfold sumP
  exact sm_apply (hL := eStage_hasU xQ xQs xK xKs xTri slot i hs hi L hL p hp) ..

/-- After a unit's exponentials. -/
theorem eStage_ev (slot i : ℕ) (hs : slot < 2) (hi : i < 8) (L : List (View.Piece (Elt Ideal) EScr .f32))
    (hL : HasUs xQ xK xKs xTri slot i L) (c g t q : ℕ) (hc : c < 2) (hg : g < 2) (ht : t < 128 * (i + 1)) (hq : q < 128) :
    at4 (View.canon (eStage (ofArr xQ) (ofArr xQs) (ofArr xK) (ofArr xKs) (ofArr xTri) ofPieces ofPieces slot i hs hi L 4 (le_refl _)) :
      EScr.Idx → Elt Ideal .f32) slot c t (g * 128 + q) = ev xQ xQs xK xKs xTri c g i t q := by
  rw [at4, dif_pos ⟨hs, hc, by omega, by omega⟩, canon_eStage (hL := hL), if_pos]
  · show ev xQ xQs xK xKs xTri c ((g * 128 + q) / 128) i t ((g * 128 + q) % 128) = _
    rw [show (g * 128 + q) / 128 = g by omega, show (g * 128 + q) % 128 = q by omega]
  · refine ⟨rfl, ht, ?_⟩
    show 2 * c + (g * 128 + q) / 128 < 4
    omega

/-- Another slot's scores survive a unit's exponentials. -/
theorem eStage_other (slot slot' i i' : ℕ) (hs : slot < 2) (hs' : slot' < 2) (hne : slot' ≠ slot) (hi : i < 8) (hi' : i' < 8)
    (L : List (View.Piece (Elt Ideal) EScr .f32)) (hL : HasUs xQ xK xKs xTri slot i L) (hL' : HasUs xQ xK xKs xTri slot' i' L) :
    HasUs xQ xK xKs xTri slot' i'
      (eStage (ofArr xQ) (ofArr xQs) (ofArr xK) (ofArr xKs) (ofArr xTri) ofPieces ofPieces slot i hs hi L 4 (le_refl _)) := by
  intro c g hc hg t q ht hq
  rw [← hL' c g hc hg t q ht hq, at4, dif_pos ⟨hs', by omega, by omega, by omega⟩, canon_eStage (hL := hL), if_neg,
    at4, dif_pos ⟨hs', by omega, by omega, by omega⟩]
  rintro ⟨h, -, -⟩
  exact hne h

theorem scoresL_has (slot i : ℕ) (hs : slot < 2) (hi : i < 8) (L : List (View.Piece (Elt Ideal) EScr .f32)) :
    HasUs xQ xK xKs xTri slot i (scoresL (ofArr xQ) (ofArr xK) (ofArr xKs) (ofArr xTri) ofPieces slot i hs hi L) := by
  intro c g hc hg t q ht hq
  rw [at4, dif_pos ⟨hs, hc, by omega, by omega⟩, canon_scoresL, if_pos]
  · show uv xQ xK xKs xTri c ((g * 128 + q) / 128) i t ((g * 128 + q) % 128) = _
    rw [show (g * 128 + q) / 128 = g by omega, show (g * 128 + q) % 128 = q by omega]
  · exact ⟨rfl, ht⟩

theorem scoresL_other (slot slot' i i' : ℕ) (hs : slot < 2) (hs' : slot' < 2) (hne : slot' ≠ slot) (hi : i < 8) (hi' : i' < 8)
    (L : List (View.Piece (Elt Ideal) EScr .f32)) (hL' : HasUs xQ xK xKs xTri slot' i' L) :
    HasUs xQ xK xKs xTri slot' i' (scoresL (ofArr xQ) (ofArr xK) (ofArr xKs) (ofArr xTri) ofPieces slot i hs hi L) := by
  intro c g hc hg t q ht hq
  rw [← hL' c g hc hg t q ht hq, at4, dif_pos ⟨hs', by omega, by omega, by omega⟩, canon_scoresL, if_neg,
    at4, dif_pos ⟨hs', by omega, by omega, by omega⟩]
  rintro ⟨h, -⟩
  exact hne h

theorem preE_has (t : ℕ) (ht : t < 8) :
    HasUs xQ xK xKs xTri (t % 2) (unitAt t) (preE (ofArr xQ) (ofArr xQs) (ofArr xK) (ofArr xKs) (ofArr xTri) ofPieces ofPieces t ht) ∧
    (t + 1 < 8 → HasUs xQ xK xKs xTri ((t + 1) % 2) (unitAt (t + 1))
      (preE (ofArr xQ) (ofArr xQs) (ofArr xK) (ofArr xKs) (ofArr xTri) ofPieces ofPieces t ht)) := by
  induction t with
  | zero =>
    refine ⟨?_, fun h1 => ?_⟩
    · exact scoresL_other xQ xK xKs xTri 1 0 (unitAt 1) (unitAt 0) (by decide) (by decide) (by decide) (unitAt_lt (by decide))
        (unitAt_lt (by decide)) _ (scoresL_has xQ xK xKs xTri 0 (unitAt 0) (by decide) (unitAt_lt (by decide)) _)
    · exact scoresL_has xQ xK xKs xTri 1 (unitAt 1) (by decide) (unitAt_lt (by decide)) _
  | succ t ih =>
    obtain ⟨ih0, ih1⟩ := ih (Nat.lt_of_succ_lt ht)
    have ih1 := ih1 ht
    have hE := eStage_other xQ xQs xK xKs xTri (t % 2) ((t + 1) % 2) (unitAt t) (unitAt (t + 1)) (Nat.mod_lt _ (by decide))
      (Nat.mod_lt _ (by decide)) (by omega) (unitAt_lt (Nat.lt_of_succ_lt ht)) (unitAt_lt ht) _ ih0 ih1
    simp only [preE] at hE ⊢
    by_cases h2 : t + 2 < 8
    · rw [dif_pos h2]
      exact ⟨scoresL_other xQ xK xKs xTri ((t + 2) % 2) ((t + 1) % 2) (unitAt (t + 2)) (unitAt (t + 1)) (Nat.mod_lt _ (by decide))
        (Nat.mod_lt _ (by decide)) (by omega) (unitAt_lt h2) (unitAt_lt ht) _ hE,
        fun _ => scoresL_has xQ xK xKs xTri ((t + 2) % 2) (unitAt (t + 2)) (Nat.mod_lt _ (by decide)) (unitAt_lt h2) _⟩
    · rw [dif_neg h2]
      exact ⟨hE, fun h => absurd h h2⟩

end Steps

end DiffAttn

end
-- ==== Proof.SemE.lean ====
module

public import proofs.«01_k».proof.Proof.SemD

@[expose] public section

/-! The values of a unit and its normalization, read on the extended reals. -/

noncomputable section

namespace DiffAttn

open Idealize.ShloMosaic Idealize.ShloMosaic.TcCoe Cert.KernelIdeal Cert.KernelIdeal.Gen

theorem cat8_apply (f : ∀ k, k < 8 → FVec Ideal Chunk .bf16) (v : ℕ → ℕ → EReal)
    (h : ∀ k hk x, f k hk x = v (32 * k + (x 0).val) (x 1).val) (y : (⟨2, ![256, 128]⟩ : Shape).Idx) :
    cat8 f y = v (y 0).val (y 1).val := by
  have h0 : (y 0).val < 256 := (y 0).isLt
  have h2 : ∀ k hk (a : Fin 32) (b : Fin 128), f k hk (ix2 a b) = v (32 * k + a.val) b.val := fun k hk a b => h k hk (ix2 a b)
  unfold cat8
  pointwise
  split_ifs <;> (refine (h2 _ _ _ _).trans (congrArg₂ v ?_ rfl); dsimp only; omega)

theorem cat4_apply (f : ∀ k, k < 4 → FVec Ideal Chunk .bf16) (v : ℕ → ℕ → EReal)
    (h : ∀ k hk x, f k hk x = v (32 * k + (x 0).val) (x 1).val) (y : (⟨2, ![128, 128]⟩ : Shape).Idx) :
    cat4 f y = v (y 0).val (y 1).val := by
  have h0 : (y 0).val < 128 := (y 0).isLt
  have h2 : ∀ k hk (a : Fin 32) (b : Fin 128), f k hk (ix2 a b) = v (32 * k + a.val) b.val := fun k hk a b => h k hk (ix2 a b)
  unfold cat4
  pointwise
  split_ifs <;> (refine (h2 _ _ _ _).trans (congrArg₂ v ?_ rfl); dsimp only; omega)

theorem sum_blocks (f : ℕ → EReal) (a n : ℕ) : ∑ k : Fin n, f (a + k.val) = ∑ t ∈ Finset.range n, f (a + t) :=
  (Finset.sum_range (fun t => f (a + t))).symm

section Mix

variable (xV : VIn.Idx → Elt Ideal .fp8e4m3) (slot : ℕ) (hs : slot < 2) (c0 c1 : FVec Ideal Row .f32)
  (L : List (View.Piece (Elt Ideal) EScr .f32)) (i : ℕ) (W : ℕ → ℕ → ℕ → EReal)

/-- The mixed weights of the unit's keys are `W`. -/
def Mixed : Prop := ∀ k (hk : 32 * k + 32 ≤ 1024), 32 * k + 32 ≤ 128 * (i + 1) → ∀ x : Chunk.Idx,
  aC ofPieces slot 0 k hs (by decide) hk c0 L x = W 0 (32 * k + (x 0).val) (x 1).val ∧
  aC ofPieces slot 1 k hs (by decide) hk c1 L x = W 1 (32 * k + (x 0).val) (x 1).val

theorem aFull_apply (hW : Mixed slot hs c0 c1 L i W) (b : ℕ) (hb : b * 256 + 256 ≤ 1024) (hb' : b * 256 + 256 ≤ 128 * (i + 1))
    (y : (⟨2, ![256, 256]⟩ : Shape).Idx) :
    aFull ofPieces slot hs c0 c1 L b hb y = W ((y 1).val / 128) (b * 256 + (y 0).val) ((y 1).val % 128) := by
  have h0 : (y 0).val < 256 := (y 0).isLt
  have h1 : (y 1).val < 256 := (y 1).isLt
  unfold aFull
  pointwise
  split
  · next h =>
    rw [cat8_apply _ (fun r q => W 0 (b * 256 + r) q)]
    · rw [show (y 1).val / 128 = 0 by omega, Nat.mod_eq_of_lt h]
      rfl
    · intro k hk x
      rw [(hW (8 * b + k) (by omega) (by omega) x).1]
      exact congrArg (fun t => W 0 t (x 1).val) (by omega)
  · next h =>
    rw [cat8_apply _ (fun r q => W 1 (b * 256 + r) q)]
    · rw [show (y 1).val / 128 = 1 by omega, show (y 1).val % 128 = (y 1).val - 128 by omega]
      rfl
    · intro k hk x
      rw [(hW (8 * b + k) (by omega) (by omega) x).2]
      exact congrArg (fun t => W 1 t (x 1).val) (by omega)

theorem aHalf_apply (hW : Mixed slot hs c0 c1 L i W) (b : ℕ) (hb : b * 256 + 128 ≤ 1024) (hb' : b * 256 + 128 ≤ 128 * (i + 1))
    (y : (⟨2, ![128, 256]⟩ : Shape).Idx) :
    aHalf ofPieces slot hs c0 c1 L b hb y = W ((y 1).val / 128) (b * 256 + (y 0).val) ((y 1).val % 128) := by
  have h0 : (y 0).val < 128 := (y 0).isLt
  have h1 : (y 1).val < 256 := (y 1).isLt
  unfold aHalf
  pointwise
  split
  · next h =>
    rw [cat4_apply _ (fun r q => W 0 (b * 256 + r) q)]
    · rw [show (y 1).val / 128 = 0 by omega, Nat.mod_eq_of_lt h]
      rfl
    · intro k hk x
      rw [(hW (8 * b + k) (by omega) (by omega) x).1]
      exact congrArg (fun t => W 0 t (x 1).val) (by omega)
  · next h =>
    rw [cat4_apply _ (fun r q => W 1 (b * 256 + r) q)]
    · rw [show (y 1).val / 128 = 1 by omega, show (y 1).val % 128 = (y 1).val - 128 by omega]
      rfl
    · intro k hk x
      rw [(hW (8 * b + k) (by omega) (by omega) x).2]
      exact congrArg (fun t => W 1 t (x 1).val) (by omega)

/-- The value read back from its scratch. -/
theorem vld_apply (b w : ℕ) (hb : b * 256 + w ≤ 1024) (y : (⟨2, ![256, w]⟩ : Shape).Idx) :
    ofPieces (vL (ofArr xV) (8 / 2) (le_refl _)) ![0, b * 256] ![256, w] (vt_inb hb) y = at3 xV 0 (b * 256 + (y 1).val) (y 0).val := by
  have h1 : (y 1).val < w := (y 1).isLt
  rw [ofPieces_apply, canon_vL]
  · congr 1
    · show b * 256 + 1 * (y 1).val = _
      omega
    · show 0 + 1 * (y 0).val = _
      omega
  · show b * 256 + 1 * (y 1).val < _
    omega

theorem oFull_apply (hW : Mixed slot hs c0 c1 L i W) (b : ℕ) (hb : b * 256 + 256 ≤ 1024) (hb' : b * 256 + 256 ≤ 128 * (i + 1))
    (y : (⟨2, ![256, 256]⟩ : Shape).Idx) :
    oFull (ofArr xV) ofPieces ofPieces slot hs c0 c1 L b hb y =
      ∑ t ∈ Finset.range 256, at3 xV 0 (b * 256 + t) (y 0).val * W ((y 1).val / 128) (b * 256 + t) ((y 1).val % 128) := by
  unfold oFull
  pointwise
  rw [← sum_blocks (fun t => at3 xV 0 t (y 0).val * W ((y 1).val / 128) t ((y 1).val % 128))]
  refine Finset.sum_congr rfl fun k _ => ?_
  rw [vld_apply, aFull_apply (hW := hW) (hb' := hb')]
  · rfl
  · exact hb

theorem oHalf_apply (hW : Mixed slot hs c0 c1 L i W) (b : ℕ) (hb : b * 256 + 128 ≤ 1024) (hb' : b * 256 + 128 ≤ 128 * (i + 1))
    (y : (⟨2, ![256, 256]⟩ : Shape).Idx) :
    oHalf (ofArr xV) ofPieces ofPieces slot hs c0 c1 L b hb y =
      ∑ t ∈ Finset.range 128, at3 xV 0 (b * 256 + t) (y 0).val * W ((y 1).val / 128) (b * 256 + t) ((y 1).val % 128) := by
  unfold oHalf
  pointwise
  rw [← sum_blocks (fun t => at3 xV 0 t (y 0).val * W ((y 1).val / 128) t ((y 1).val % 128))]
  refine Finset.sum_congr rfl fun k _ => ?_
  rw [vld_apply, aHalf_apply (hW := hW) (hb' := hb')]
  · rfl
  · exact hb

theorem oSum_apply (hW : Mixed slot hs c0 c1 L i W) (n : ℕ) (hn : n * 256 + 256 ≤ 1024) (hn' : n * 256 + 256 ≤ 128 * (i + 1))
    (y : (⟨2, ![256, 256]⟩ : Shape).Idx) :
    oSum (ofArr xV) ofPieces ofPieces slot hs c0 c1 L n hn y =
      ∑ t ∈ Finset.range (n * 256 + 256), at3 xV 0 t (y 0).val * W ((y 1).val / 128) t ((y 1).val % 128) := by
  induction n with
  | zero =>
    refine (oFull_apply xV slot hs c0 c1 L i W hW 0 hn hn' y).trans ?_
    simp only [Nat.zero_mul, Nat.zero_add]
  | succ n ih =>
    show oSum (ofArr xV) ofPieces ofPieces slot hs c0 c1 L n (by omega) y +
      oFull (ofArr xV) ofPieces ofPieces slot hs c0 c1 L (n + 1) hn y = _
    rw [ih (by omega) (by omega), oFull_apply (hW := hW) (hb' := hn'), show (n + 1) * 256 = n * 256 + 256 by omega,
      Finset.sum_range_add _ (n * 256 + 256) 256]

theorem oAll_apply (hW : Mixed slot hs c0 c1 L i W) (hi : i < 8) (y : (⟨2, ![256, 256]⟩ : Shape).Idx) :
    oAll (ofArr xV) ofPieces ofPieces slot hs c0 c1 L i hi y =
      ∑ t ∈ Finset.range (128 * (i + 1)), at3 xV 0 t (y 0).val * W ((y 1).val / 128) t ((y 1).val % 128) := by
  unfold oAll
  split
  · next h =>
    rw [oSum_apply (hW := hW) (hn' := by omega), show i / 2 * 256 + 256 = 128 * (i + 1) by omega]
  · next h =>
    split
    · next h0 =>
      rw [oHalf_apply (hW := hW) (hb' := by omega), h0]
      simp only [Nat.zero_mul, Nat.zero_add, Nat.mul_one]
    · next h0 =>
      show oSum (ofArr xV) ofPieces ofPieces slot hs c0 c1 L (i / 2 - 1) _ y +
        oHalf (ofArr xV) ofPieces ofPieces slot hs c0 c1 L (i / 2) _ y = _
      rw [oSum_apply (hW := hW) (hn' := by omega), oHalf_apply (hW := hW) (hb' := by omega),
        show 128 * (i + 1) = i / 2 * 256 + 128 by omega, Finset.sum_range_add _ (i / 2 * 256) 128,
        show (i / 2 - 1) * 256 + 256 = i / 2 * 256 by omega]

end Mix

section Norm

variable (xVs : (⟨3, ![1, 1, 256]⟩ : Shape).Idx → Elt Ideal .f32) (xGb : (⟨2, ![256, 128]⟩ : Shape).Idx → Elt Ideal .f32)
  (o : FVec Ideal ⟨2, ![256, 256]⟩ .f32) (O : ℕ → ℕ → ℕ → EReal) (ho : ∀ y, o y = O ((y 1).val / 128) ((y 1).val % 128) (y 0).val)
  (g : ℕ) (hg : g < 2) (s : FVec Ideal Row .f32) (S : ℕ → EReal) (hS : ∀ x, s x = S (x 1).val)

include ho in
theorem wC_apply (t : ℕ) (ht : t < 8) (x : Chunk.Idx) :
    wC (ofArr xVs) ofPieces o g hg t ht x = O g (x 1).val (32 * t + (x 0).val) * at3 xVs 0 0 (32 * t + (x 0).val) := by
  have h0 : (x 0).val < 32 := (x 0).isLt
  have h1 : (x 1).val < 128 := (x 1).isLt
  have e1 : extractStridedSlice Chunk ![32 * t, g * 128] o (slice_fits (r := 32 * t) (c := g * 128) (by omega) (by omega)) x
      = O g (x 1).val (32 * t + (x 0).val) := by
    have := ho (ix2 ⟨32 * t + (x 0).val, by omega⟩ ⟨g * 128 + (x 1).val, by omega⟩)
    simp only [ix2_0, ix2_1] at this
    rw [show (g * 128 + (x 1).val) / 128 = g by omega, show (g * 128 + (x 1).val) % 128 = (x 1).val by omega] at this
    rw [← this]
    refine congrArg o (funext fun a => ?_)
    fin_cases a <;> rfl
  have e2 : ofPieces (vsL (ofArr xVs)) ![32 * t, 0] Chunk.size (rows_inb ht) x = at3 xVs 0 0 (32 * t + (x 0).val) := by
    rw [ofPieces_apply, canon_vsL]
    congr 1
    show 32 * t + 1 * (x 0).val = _
    omega
  show extractStridedSlice Chunk ![32 * t, g * 128] o _ x * ofPieces (vsL (ofArr xVs)) ![32 * t, 0] Chunk.size _ x = _
  rw [e1]
  exact congrArg _ e2

/-- A value column, scaled. -/
def wvO (q v : ℕ) : EReal := O g q v * at3 xVs 0 0 v

/-- The sum of its squares. -/
def ssqO (q : ℕ) : EReal := ∑ v ∈ Finset.range 256, wvO xVs O g q v * wvO xVs O g q v

/-- The reciprocal of the sum of exponentials. -/
def rlO (q : ℕ) : EReal := Ideal.div (Ideal.ofBits .f32 0x3F800000#32) (S q)

/-- The normalizing factor. -/
def fO (q : ℕ) : EReal :=
  rlO S q * Ideal.rsqrt (rlO S q * rlO S q * ssqO xVs O g q * Ideal.ofBits .f32 0x3B800000#32 + Ideal.ofBits .f32 0x3727C5AC#32)

/-- The unit's result. -/
def yO (q v : ℕ) : EReal := wvO xVs O g q v * fO xVs O g S q * at2 xGb v q

include ho in
theorem ssq_apply (n : ℕ) (hn : n < 8) (x : Chunk.Idx) :
    ssq (ofArr xVs) ofPieces o g hg n hn x = ∑ t ∈ Finset.range (n + 1),
      wvO xVs O g (x 1).val (32 * t + (x 0).val) * wvO xVs O g (x 1).val (32 * t + (x 0).val) := by
  induction n with
  | zero =>
    rw [Finset.sum_range_one]
    show wC (ofArr xVs) ofPieces o g hg 0 hn x * wC (ofArr xVs) ofPieces o g hg 0 hn x = _
    rw [wC_apply (ho := ho)]
    rfl
  | succ n ih =>
    rw [Finset.sum_range_succ, ← ih (Nat.lt_of_succ_lt hn)]
    show ssq (ofArr xVs) ofPieces o g hg n (Nat.lt_of_succ_lt hn) x +
      wC (ofArr xVs) ofPieces o g hg (n + 1) hn x * wC (ofArr xVs) ofPieces o g hg (n + 1) hn x = _
    rw [wC_apply (ho := ho)]
    rfl

include hS in
theorem rl_apply (x : Row.Idx) : rl s x = rlO S (x 1).val := by
  show Ideal.div (Ideal.ofBits .f32 0x3F800000#32) (s x) = _
  rw [hS]
  rfl

include ho hS in
theorem fV_apply (x : Row.Idx) : fV (ofArr xVs) ofPieces o g hg s x = fO xVs O g S (x 1).val := by
  have e : shapeCast Row (multiReduction .add [0] ⟨1, ![128]⟩ (ssq (ofArr xVs) ofPieces o g hg 7 (by decide)) 0x00000000#32 (by decide)
      (.inl rfl) rfl) (by decide) x = ssqO xVs O g (x 1).val := by
    pointwise
    simp only [ssq_apply (ho := ho)]
    exact sum_chunks (fun v => wvO xVs O g (x 1).val v * wvO xVs O g (x 1).val v) 8
  show rl s x * Ideal.rsqrt (rl s x * rl s x * shapeCast Row _ _ x * Ideal.ofBits .f32 0x3B800000#32 + Ideal.ofBits .f32 0x3727C5AC#32) = _
  rw [rl_apply (hS := hS)]
  refine congrArg (fun z => rlO S (x 1).val * Ideal.rsqrt (rlO S (x 1).val * rlO S (x 1).val * z * Ideal.ofBits .f32 0x3B800000#32 +
    Ideal.ofBits .f32 0x3727C5AC#32)) e

include ho hS in
theorem yC_apply (t : ℕ) (ht : t < 8) (x : Chunk.Idx) :
    yC (ofArr xVs) (ofArr xGb) ofPieces o g hg s t ht x = yO xVs xGb O g S (x 1).val (32 * t + (x 0).val) := by
  show wC (ofArr xVs) ofPieces o g hg t ht x * broadcastTo Chunk (fV (ofArr xVs) ofPieces o g hg s) _ x *
    ofArr xGb ![32 * t, 0] ![32, 128] _ x = _
  rw [wC_apply (ho := ho), row_bcast, fV_apply (ho := ho) (hS := hS), ofArr2, Nat.zero_add]
  rfl

include ho hS in
theorem yT_apply (y : (⟨2, ![128, 256]⟩ : Shape).Idx) :
    yT (ofArr xVs) (ofArr xGb) ofPieces o g hg s y = yO xVs xGb O g S (y 0).val (y 1).val := by
  unfold yT
  pointwise
  rw [cat8_apply _ (fun v q => yO xVs xGb O g S q v)]
  · rfl
  · intro k hk x
    rw [yC_apply (ho := ho) (hS := hS)]

end Norm

end DiffAttn

end
-- ==== Proof.SemF.lean ====
module

public import proofs.«01_k».proof.Proof.SemE

@[expose] public section

/-! What the program writes, as a closed form on the extended reals. -/

noncomputable section

namespace DiffAttn

open Idealize.ShloMosaic Idealize.ShloMosaic.TcCoe Cert.KernelIdeal Cert.KernelIdeal.Gen

section Out

variable (xQ : QIn.Idx → Elt Ideal .fp8e4m3) (xQs : QsIn.Idx → Elt Ideal .f32) (xK : KIn.Idx → Elt Ideal .fp8e4m3)
  (xKs : KsIn.Idx → Elt Ideal .f32) (xV : VIn.Idx → Elt Ideal .fp8e4m3) (xVs : (⟨3, ![1, 1, 256]⟩ : Shape).Idx → Elt Ideal .f32)
  (xL : Fin 4 → Row.Idx → Elt Ideal .f32) (xTri : (⟨2, ![128, 128]⟩ : Shape).Idx → Elt Ideal .f32)
  (xGb : (⟨2, ![256, 128]⟩ : Shape).Idx → Elt Ideal .f32)

/-- The exponential of two lambda vectors' product. -/
def lexpv (a b : Fin 4) : EReal := Ideal.exp (∑ d : Fin 128, at2 (xL a) 0 d.val * at2 (xL b) 0 d.val)

/-- The mixing weight. -/
def lamv : EReal := lexpv xL 0 1 - lexpv xL 2 3 + Ideal.ofBits .f32 0x3F2A86F7#32

/-- The second component's weight times the first one's sum, over the second one's sum. -/
def cfv (g i q : ℕ) : EReal := Ideal.div (lamv xL * sv xQ xQs xK xKs xTri 0 g i q) (sv xQ xQs xK xKs xTri 1 g i q)

/-- A key's mixed weight, before the first component's division. -/
def wgt (i g t q : ℕ) : EReal :=
  ev xQ xQs xK xKs xTri 0 g i t q - cfv xQ xQs xK xKs xL xTri g i q * ev xQ xQs xK xKs xTri 1 g i t q

/-- The mixed values. -/
def ov (i g q v : ℕ) : EReal := ∑ t ∈ Finset.range (128 * (i + 1)), at3 xV 0 t v * wgt xQ xQs xK xKs xL xTri i g t q

/-- The result of query `q` of block `i`, head `g`, column `v`. -/
def yv (i g q v : ℕ) : EReal := yO xVs xGb (ov xQ xQs xK xKs xV xL xTri i) g (sv xQ xQs xK xKs xTri 0 g i) q v

theorem lvec_apply (a : Fin 4) (x : Row.Idx) : lvec (fun a => ofArr (xL a)) a x = at2 (xL a) 0 (x 1).val := by
  unfold lvec
  have h0 : (x 0).val < 1 := (x 0).isLt
  pointwise
  rw [ofArr2]
  simp only [Nat.zero_add]
  rw [show (x 0).val = 0 by omega]

theorem lexp_apply (a b : Fin 4) (x : (⟨2, ![1, 1]⟩ : Shape).Idx) : lexp (fun a => ofArr (xL a)) a b x = lexpv xL a b := by
  unfold lexp lexpv
  pointwise
  simp only [lvec_apply]
  rfl

theorem lam_apply (x : (⟨2, ![1, 1]⟩ : Shape).Idx) : lam (fun a => ofArr (xL a)) x = lamv xL := by
  show lexp (fun a => ofArr (xL a)) 0 1 x - lexp (fun a => ofArr (xL a)) 2 3 x + Ideal.ofBits .f32 0x3F2A86F7#32 = _
  rw [lexp_apply, lexp_apply]
  rfl

theorem coef_apply (s0 s1 : FVec Ideal Row .f32) (x : Row.Idx) :
    coef (fun a => ofArr (xL a)) s0 s1 x = Ideal.div (lamv xL * s0 x) (s1 x) := by
  have h : broadcastTo Row (lam (fun a => ofArr (xL a))) (by decide) x = lamv xL := by
    pointwise
    exact lam_apply xL _
  exact congrArg (fun z => Ideal.div (z * s0 x) (s1 x)) h

theorem unit_mixed (slot i : ℕ) (hs : slot < 2) (hi : i < 8) (L : List (View.Piece (Elt Ideal) EScr .f32))
    (hL : HasUs xQ xK xKs xTri slot i L) :
    Mixed slot hs
      (coef (fun a => ofArr (xL a)) (sumP (ofArr xQ) (ofArr xQs) (ofArr xK) (ofArr xKs) (ofArr xTri) ofPieces ofPieces slot i 0 hs hi (by decide) L)
        (sumP (ofArr xQ) (ofArr xQs) (ofArr xK) (ofArr xKs) (ofArr xTri) ofPieces ofPieces slot i 2 hs hi (by decide) L))
      (coef (fun a => ofArr (xL a)) (sumP (ofArr xQ) (ofArr xQs) (ofArr xK) (ofArr xKs) (ofArr xTri) ofPieces ofPieces slot i 1 hs hi (by decide) L)
        (sumP (ofArr xQ) (ofArr xQs) (ofArr xK) (ofArr xKs) (ofArr xTri) ofPieces ofPieces slot i 3 hs hi (by decide) L))
      (eStage (ofArr xQ) (ofArr xQs) (ofArr xK) (ofArr xKs) (ofArr xTri) ofPieces ofPieces slot i hs hi L 4 (le_refl _)) i
      (wgt xQ xQs xK xKs xL xTri i) := by
  intro k hk hk' x
  have h0 : (x 0).val < 32 := (x 0).isLt
  have h1 : (x 1).val < 128 := (x 1).isLt
  refine ⟨?_, ?_⟩
  · show eLd ofPieces slot 0 0 k hs _ _ hk _ x - broadcastTo Chunk _ _ x * eLd ofPieces slot 1 0 k hs _ _ hk _ x = _
    rw [eLd_apply, eLd_apply, row_bcast, coef_apply,
      eStage_ev xQ xQs xK xKs xTri slot i hs hi L hL 0 0 (32 * k + (x 0).val) (x 1).val (by decide) (by decide) (by omega) h1,
      eStage_ev xQ xQs xK xKs xTri slot i hs hi L hL 1 0 (32 * k + (x 0).val) (x 1).val (by decide) (by decide) (by omega) h1,
      sumP_apply (hL := hL), sumP_apply (hL := hL)]
    rfl
  · show eLd ofPieces slot 0 1 k hs _ _ hk _ x - broadcastTo Chunk _ _ x * eLd ofPieces slot 1 1 k hs _ _ hk _ x = _
    rw [eLd_apply, eLd_apply, row_bcast, coef_apply,
      eStage_ev xQ xQs xK xKs xTri slot i hs hi L hL 0 1 (32 * k + (x 0).val) (x 1).val (by decide) (by decide) (by omega) h1,
      eStage_ev xQ xQs xK xKs xTri slot i hs hi L hL 1 1 (32 * k + (x 0).val) (x 1).val (by decide) (by decide) (by omega) h1,
      sumP_apply (hL := hL), sumP_apply (hL := hL)]
    rfl

/-- A list of output pieces at an index: the last block's payload on it, the earlier pieces elsewhere. -/
theorem canon_out (i g : ℕ) (h : ∀ a, (![i * 128, g * 256] : Fin 2 → ℕ) a + (![128, 256] : Fin 2 → ℕ) a ≤ OutB.size a)
    (f : (⟨2, ![128, 256]⟩ : Shape).Idx → Elt Ideal .bf16) (L : List (View.Piece (Elt Ideal) OutB .bf16)) (y : OutB.Idx) :
    View.canon (⟨Rect.unit (s := OutB) ![i * 128, g * 256] ![128, 256] h, f⟩ :: L) y =
      if (y 0).val / 128 = i ∧ (y 1).val / 256 = g then at2 f ((y 0).val % 128) ((y 1).val % 256) else View.canon L y := by
  rw [canon_unit]
  by_cases hy : (y 0).val / 128 = i ∧ (y 1).val / 256 = g
  · rw [if_pos hy, dif_pos]
    · refine eq_at2 f _ _ _ ?_ ?_
      · show (y 0).val - i * 128 = (y 0).val % 128
        omega
      · show (y 1).val - g * 256 = (y 1).val % 256
        omega
    · intro a
      fin_cases a
      · show i * 128 ≤ (y 0).val ∧ (y 0).val < i * 128 + 128; omega
      · show g * 256 ≤ (y 1).val ∧ (y 1).val < g * 256 + 256; omega
  · rw [if_neg hy, dif_neg]
    intro h'
    have a0 : i * 128 ≤ (y 0).val ∧ (y 0).val < i * 128 + 128 := h' 0
    have a1 : g * 256 ≤ (y 1).val ∧ (y 1).val < g * 256 + 256 := h' 1
    omega

theorem canon_unitOut (slot i : ℕ) (hs : slot < 2) (hi : i < 8) (L : List (View.Piece (Elt Ideal) EScr .f32))
    (hL : HasUs xQ xK xKs xTri slot i L) (Lo : List (View.Piece (Elt Ideal) OutB .bf16)) (y : OutB.Idx) :
    View.canon (unitOut (ofArr xQ) (ofArr xQs) (ofArr xK) (ofArr xKs) (ofArr xV) (ofArr xVs) (fun a => ofArr (xL a)) (ofArr xTri) (ofArr xGb)
      ofPieces ofPieces ofPieces ofPieces slot hs L i hi Lo) y =
      if (y 0).val / 128 = i then
        yv xQ xQs xK xKs xV xVs xL xTri xGb i ((y 1).val / 256) ((y 0).val % 128) ((y 1).val % 256)
      else View.canon Lo y := by
  have h1 : (y 1).val < 512 := (y 1).isLt
  have hm := unit_mixed xQ xQs xK xKs xL xTri slot i hs hi L hL
  unfold unitOut
  simp only []
  rw [canon_out, canon_out]
  by_cases h : (y 0).val / 128 = i
  · rw [if_pos h]
    by_cases hg : (y 1).val / 256 = 1
    · rw [if_pos ⟨h, hg⟩, hg, at2_of_apply _ (yv xQ xQs xK xKs xV xVs xL xTri xGb i 1) _ (Nat.mod_lt _ (by decide)) (Nat.mod_lt _ (by decide))]
      intro x
      exact yT_apply xVs xGb _ (ov xQ xQs xK xKs xV xL xTri i) (fun z => oAll_apply xV slot hs _ _ _ i _ hm hi z) 1 (by decide) _
        (sv xQ xQs xK xKs xTri 0 1 i) (fun z => sumP_apply xQ xQs xK xKs xTri slot i 1 hs hi (by decide) L hL z) x
    · have hg : (y 1).val / 256 = 0 := by omega
      rw [if_neg (by omega), if_pos ⟨h, hg⟩, hg,
        at2_of_apply _ (yv xQ xQs xK xKs xV xVs xL xTri xGb i 0) _ (Nat.mod_lt _ (by decide)) (Nat.mod_lt _ (by decide))]
      intro x
      exact yT_apply xVs xGb _ (ov xQ xQs xK xKs xV xL xTri i) (fun z => oAll_apply xV slot hs _ _ _ i _ hm hi z) 0 (by decide) _
        (sv xQ xQs xK xKs xTri 0 0 i) (fun z => sumP_apply xQ xQs xK xKs xTri slot i 0 hs hi (by decide) L hL z) x
  · rw [if_neg (by omega), if_neg (by omega), if_neg h]

theorem canon_outL (t : ℕ) (ht : t ≤ 8) (y : OutB.Idx) (hy : ∃ t', t' < t ∧ unitAt t' = (y 0).val / 128) :
    View.canon (outL (ofArr xQ) (ofArr xQs) (ofArr xK) (ofArr xKs) (ofArr xV) (ofArr xVs) (fun a => ofArr (xL a)) (ofArr xTri) (ofArr xGb)
      ofPieces ofPieces ofPieces ofPieces t ht) y =
        yv xQ xQs xK xKs xV xVs xL xTri xGb ((y 0).val / 128) ((y 1).val / 256) ((y 0).val % 128) ((y 1).val % 256) := by
  induction t with
  | zero => obtain ⟨t', h, -⟩ := hy; omega
  | succ t ih =>
    show View.canon (unitOut (ofArr xQ) (ofArr xQs) (ofArr xK) (ofArr xKs) (ofArr xV) (ofArr xVs) (fun a => ofArr (xL a)) (ofArr xTri) (ofArr xGb)
      ofPieces ofPieces ofPieces ofPieces (t % 2) (Nat.mod_lt _ (by decide))
      (preE (ofArr xQ) (ofArr xQs) (ofArr xK) (ofArr xKs) (ofArr xTri) ofPieces ofPieces t ht) (unitAt t) (unitAt_lt ht)
      (outL (ofArr xQ) (ofArr xQs) (ofArr xK) (ofArr xKs) (ofArr xV) (ofArr xVs) (fun a => ofArr (xL a)) (ofArr xTri) (ofArr xGb)
        ofPieces ofPieces ofPieces ofPieces t (Nat.le_of_succ_le ht))) y = _
    rw [canon_unitOut (hL := (preE_has xQ xQs xK xKs xTri t ht).1)]
    by_cases h : (y 0).val / 128 = unitAt t
    · rw [if_pos h, h]
    · rw [if_neg h]
      obtain ⟨t', h1, h2⟩ := hy
      refine ih _ ⟨t', ?_, h2⟩
      rcases Nat.lt_or_ge t' t with h3 | h3
      · exact h3
      · obtain rfl : t' = t := by omega
        exact absurd h2.symm h

theorem unitAt_onto (i : ℕ) (hi : i < 8) : ∃ t, t < 8 ∧ unitAt t = i := by
  have : ∀ i : Fin 8, ∃ t : Fin 8, unitAt t.val = i.val := by decide
  obtain ⟨t, h⟩ := this ⟨i, hi⟩
  exact ⟨t.val, t.isLt, h⟩

/-- The whole block the program writes. -/
theorem canon_outL_all (y : OutB.Idx) :
    View.canon (outL (ofArr xQ) (ofArr xQs) (ofArr xK) (ofArr xKs) (ofArr xV) (ofArr xVs) (fun a => ofArr (xL a)) (ofArr xTri) (ofArr xGb)
      ofPieces ofPieces ofPieces ofPieces 8 (le_refl _)) y =
        yv xQ xQs xK xKs xV xVs xL xTri xGb ((y 0).val / 128) ((y 1).val / 256) ((y 0).val % 128) ((y 1).val % 256) :=
  canon_outL xQ xQs xK xKs xV xVs xL xTri xGb 8 (le_refl _) y
    (unitAt_onto _ (by have : (y 0).val < 1024 := (y 0).isLt; omega))

end Out

end DiffAttn

end
-- ==== Proof.KerA.lean ====
module

public import proofs.«01_k».proof.Proof.Gen.KernelIdeal.Value
public import proofs.«01_k».proof.Proof.TieA
public import proofs.«01_k».proof.Proof.TieB
public import proofs.«01_k».proof.Proof.SemF

@[expose] public section

/-! What each point of the grid leaves in the result's block and in the carried scratch, in closed form. -/

noncomputable section

namespace DiffAttn

open Idealize.ShloMosaic Idealize.ShloMosaic.TcCoe Idealize.ShloMosaic.Tactic Cert.KernelIdeal Cert.KernelIdeal.Gen

theorem z2 : (![0, 0] : Fin 2 → ℕ) = fun _ => 0 := by decide

theorem ldW_eq {sp : Space} {s : Shape} {e : EltTy} (a : Memref sig .tc sp s e) (h : a.IsWhole) (x : Vec Ideal s e) :
    ldW a h x = ofArr x := by
  funext off size hb
  show View.readAt (Elt Ideal) a.view (Rect.unit off size hb).toLoadRect (h.unread x) = _
  rw [View.readAt_eq_ld, h.read_unread]
  rfl

theorem ldP_eq {sp : Space} {s : Shape} {e : EltTy} (a : Memref sig .tc sp s e) : ldP (F := Ideal) a = ofPieces := by
  funext L off size hb
  exact View.readCov_eq_canon' a.view L (Rect.unit off size hb).toLoadRect

theorem canon_triL : View.canon (triL (F := Ideal)) = k0_pay3 (F := Ideal) := View.canon_unit_zero z2 _ _

theorem canon_gbL (x : Vec Ideal S1x256 .f32) : View.canon (gbL (F := Ideal) (ofArr x)) = k0_pay2 x := by
  refine (View.canon_unit_zero z2 _ _).trans (congrArg k0_pay2 ?_)
  exact View.ld_unit_zero z2 _ x

theorem lams_eq (x6 x7 x8 x9 : Vec Ideal S1x128 .f32) :
    (![ofArr x6, ofArr x7, ofArr x8, ofArr x9] : Fin 4 → Loader Ideal S1x128 .f32) = fun a => ofArr ((![x6, x7, x8, x9] : Fin 4 → Vec Ideal S1x128 .f32) a) := by
  funext a
  fin_cases a <;> rfl

/-- The block a point writes, over its input blocks and the two carried arrays. -/
def blockOf (x0 : Vec Ideal QIn .fp8e4m3) (x1 : Vec Ideal QsIn .f32) (x2 : Vec Ideal KIn .fp8e4m3) (x3 : Vec Ideal KsIn .f32) (x4 : Vec Ideal VIn .fp8e4m3)
    (x5 : Vec Ideal S1x1x256 .f32) (x6 x7 x8 x9 : Vec Ideal S1x128 .f32) (gb : Vec Ideal S256x128 .f32) (tri : Vec Ideal S128x128 .f32) : Vec Ideal OutB .bf16 :=
  fun y => yv x0 x1 x2 x3 x4 x5 ![x6, x7, x8, x9] tri gb ((y 0).val / 128) ((y 1).val / 256) ((y 0).val % 128) ((y 1).val % 256)

section Points

variable (c : Dev nD) (i : grid0.Coords)
    (arg1 : Memref sig .tc .vmem QIn .fp8e4m3) (harg1 : arg1.IsWhole) (arg2 : Memref sig .tc .vmem QsIn .f32) (harg2 : arg2.IsWhole)
    (arg3 : Memref sig .tc .vmem KIn .fp8e4m3) (harg3 : arg3.IsWhole) (arg4 : Memref sig .tc .vmem KsIn .f32) (harg4 : arg4.IsWhole)
    (arg5 : Memref sig .tc .vmem VIn .fp8e4m3) (harg5 : arg5.IsWhole) (arg6 : Memref sig .tc .vmem S1x1x256 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x256 .f32) (harg11 : arg11.IsWhole) (arg12 : Memref sig .tc .vmem OutB .bf16) (harg12 : arg12.IsWhole)
    (arg13 : Memref sig .tc .vmem EScr .f32) (harg13 : arg13.IsWhole) (arg14 : Memref sig .tc .vmem KScr .f32) (harg14 : arg14.IsWhole)
    (arg15 : Memref sig .tc .vmem VScr .bf16) (harg15 : arg15.IsWhole) (arg16 : Memref sig .tc .vmem S256x128 .f32) (harg16 : arg16.IsWhole)
    (arg17 : Memref sig .tc .vmem S256x128 .f32) (harg17 : arg17.IsWhole) (arg18 : Memref sig .tc .vmem S128x128 .f32) (harg18 : arg18.IsWhole)
    (x0 : Vec Ideal QIn .fp8e4m3) (x1 : Vec Ideal QsIn .f32) (x2 : Vec Ideal KIn .fp8e4m3) (x3 : Vec Ideal KsIn .f32) (x4 : Vec Ideal VIn .fp8e4m3)
    (x5 : Vec Ideal S1x1x256 .f32) (x6 x7 x8 x9 : Vec Ideal S1x128 .f32) (x10 : Vec Ideal S1x256 .f32)

theorem outA_eq (hc0 : cond0_0 i) :
    out0_A_11 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0 x0 x1 x2 x3 x4 x5 x6 x7 x8 x9 x10 = blockOf x0 x1 x2 x3 x4 x5 x6 x7 x8 x9 (k0_pay2 x10) (k0_pay3 (F := Ideal)) := by
  unfold out0_A_11
  rw [View.read_writes_junk_eq_canon, tieA]
  simp only [ldW_eq, ldP_eq]
  rw [lams_eq, ← canon_triL, ← canon_gbL x10]
  funext y
  exact canon_outL_all x0 x1 x2 x3 x4 x5 ![x6, x7, x8, x9] (View.canon triL) (View.canon (gbL (ofArr x10))) y

theorem outB_eq (hc0 : ¬cond0_0 i) (xs4 : Vec Ideal S256x128 .f32) (xs5 : Vec Ideal S128x128 .f32) :
    out0_B_11 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0 x0 x1 x2 x3 x4 x5 x6 x7 x8 x9 x10 xs4 xs5 = blockOf x0 x1 x2 x3 x4 x5 x6 x7 x8 x9 xs4 xs5 := by
  unfold out0_B_11
  rw [View.read_writes_junk_eq_canon, tieB]
  simp only [ldW_eq, ldP_eq]
  rw [lams_eq]
  funext y
  exact canon_outL_all x0 x1 x2 x3 x4 x5 ![x6, x7, x8, x9] xs5 xs4 y

theorem soutA4_eq (hc0 : cond0_0 i) :
    sout0_A_4 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0 x0 x1 x2 x3 x4 x5 x6 x7 x8 x9 x10 = k0_pay2 x10 := by
  unfold sout0_A_4
  rw [View.read_writes_junk_eq_canon]
  refine Eq.trans ?_ (canon_gbL x10)
  rw [← ldW_eq arg11 harg11 x10]
  congr 1

theorem soutA5_eq (hc0 : cond0_0 i) :
    sout0_A_5 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 hc0 x0 x1 x2 x3 x4 x5 x6 x7 x8 x9 x10 = k0_pay3 (F := Ideal) := by
  unfold sout0_A_5
  rw [View.read_writes_junk_eq_canon]
  refine Eq.trans ?_ canon_triL
  congr 1

end Points

end DiffAttn

end
-- ==== Proof.KerB.lean ====
module

public import proofs.«01_k».proof.Proof.Gen.KernelIdeal.Value
public import proofs.«01_k».proof.Proof.At
public import Idealize.ShloMosaic.Lib.Pointwise
public import Idealize.ShloMosaic.Lib.Pipeline.ValueKit

@[expose] public section

/-! The blocks a point reads, as reads of the arguments. -/

noncomputable section

namespace DiffAttn

open Idealize.ShloMosaic Idealize.ShloMosaic.TcCoe Cert.KernelIdeal Cert.KernelIdeal.Gen

variable (m : (ℓ : Loc nD τ sig) → Buf (Elt Ideal) ℓ) (c : Dev nD)

theorem pt_lt (t : Fin cfg0.N) : t.val < 14 := lt_of_lt_of_eq t.isLt N_0

theorem blk0 (t : Fin cfg0.N) (y : S2x2x1024x128.Idx) :
    iblk m c 0 t y = at5 (m ((c : Thread nD τ).loc main_arg0)) 0 (y 2).val (2 * t.val + (y 0).val) (y 1).val (y 3).val := by
  have hi : ∀ t : Fin cfg0.N, win0_0.index t (0 : Fin 4) = t.val ∧ win0_0.index t (1 : Fin 4) = 0 ∧ win0_0.index t (2 : Fin 4) = 0 ∧ win0_0.index t (3 : Fin 4) = 0 :=
    (by decide +kernel : ∀ t : Fin grid0.N, _)
  obtain ⟨h0, h1, h2, h3⟩ := hi t
  have hb : 2 * t.val + (y 0).val < 28 := by
    have := pt_lt t
    have : (y 0).val < 2 := (y 0).isLt
    omega
  have h : iblk m c 0 t y = V m c main_v1 (ix4 ⟨2 * t.val + (y 0).val, hb⟩ (y 1) (y 2) (y 3)) := by
    blk_ext [iblk, h0, h1, h2, h3]
  refine h.trans ?_
  entry_read
  pointwise
  exact eq_at5 _ _ _ _ _ _ _ rfl rfl rfl rfl rfl

theorem blk1 (t : Fin cfg0.N) (y : S2x2x1024.Idx) :
    iblk m c 1 t y = at4 (m ((c : Thread nD τ).loc main_arg1)) 0 (y 2).val (2 * t.val + (y 0).val) (y 1).val := by
  have hi : ∀ t : Fin cfg0.N, win0_1.index t (0 : Fin 3) = t.val ∧ win0_1.index t (1 : Fin 3) = 0 ∧ win0_1.index t (2 : Fin 3) = 0 :=
    (by decide +kernel : ∀ t : Fin grid0.N, _)
  obtain ⟨h0, h1, h2⟩ := hi t
  have hb : 2 * t.val + (y 0).val < 28 := by
    have := pt_lt t
    have : (y 0).val < 2 := (y 0).isLt
    omega
  have h : iblk m c 1 t y = V m c main_v3 (ix3 ⟨2 * t.val + (y 0).val, hb⟩ (y 1) (y 2)) := by
    blk_ext [iblk, h0, h1, h2]
  refine h.trans ?_
  entry_read
  pointwise
  exact eq_at4 _ _ _ _ _ _ rfl rfl rfl rfl

theorem blk2 (t : Fin cfg0.N) (y : S1x2x1024x128.Idx) :
    iblk m c 2 t y = at5 (m ((c : Thread nD τ).loc main_arg2)) 0 (y 2).val (t.val + (y 0).val) (y 1).val (y 3).val := by
  have hi : ∀ t : Fin cfg0.N, win0_2.index t (0 : Fin 4) = t.val ∧ win0_2.index t (1 : Fin 4) = 0 ∧ win0_2.index t (2 : Fin 4) = 0 ∧ win0_2.index t (3 : Fin 4) = 0 :=
    (by decide +kernel : ∀ t : Fin grid0.N, _)
  obtain ⟨h0, h1, h2, h3⟩ := hi t
  have hb : t.val + (y 0).val < 14 := by
    have := pt_lt t
    have : (y 0).val < 1 := (y 0).isLt
    omega
  have h : iblk m c 2 t y = V m c main_v5 (ix4 ⟨t.val + (y 0).val, hb⟩ (y 1) (y 2) (y 3)) := by
    blk_ext [iblk, h0, h1, h2, h3]
  refine h.trans ?_
  entry_read
  pointwise
  exact eq_at5 _ _ _ _ _ _ _ rfl rfl rfl rfl rfl

theorem blk3 (t : Fin cfg0.N) (y : S1x2x1024.Idx) :
    iblk m c 3 t y = at4 (m ((c : Thread nD τ).loc main_arg3)) 0 (y 2).val (t.val + (y 0).val) (y 1).val := by
  have hi : ∀ t : Fin cfg0.N, win0_3.index t (0 : Fin 3) = t.val ∧ win0_3.index t (1 : Fin 3) = 0 ∧ win0_3.index t (2 : Fin 3) = 0 :=
    (by decide +kernel : ∀ t : Fin grid0.N, _)
  obtain ⟨h0, h1, h2⟩ := hi t
  have hb : t.val + (y 0).val < 14 := by
    have := pt_lt t
    have : (y 0).val < 1 := (y 0).isLt
    omega
  have h : iblk m c 3 t y = V m c main_v7 (ix3 ⟨t.val + (y 0).val, hb⟩ (y 1) (y 2)) := by
    blk_ext [iblk, h0, h1, h2]
  refine h.trans ?_
  entry_read
  pointwise
  exact eq_at4 _ _ _ _ _ _ rfl rfl rfl rfl

theorem blk4 (t : Fin cfg0.N) (y : S1x1024x256.Idx) :
    iblk m c 4 t y = at4 (m ((c : Thread nD τ).loc main_arg4)) 0 (y 1).val (t.val + (y 0).val) (y 2).val := by
  have hi : ∀ t : Fin cfg0.N, win0_4.index t (0 : Fin 3) = t.val ∧ win0_4.index t (1 : Fin 3) = 0 ∧ win0_4.index t (2 : Fin 3) = 0 :=
    (by decide +kernel : ∀ t : Fin grid0.N, _)
  obtain ⟨h0, h1, h2⟩ := hi t
  have hb : t.val + (y 0).val < 14 := by
    have := pt_lt t
    have : (y 0).val < 1 := (y 0).isLt
    omega
  have h : iblk m c 4 t y = V m c main_v9 (ix3 ⟨t.val + (y 0).val, hb⟩ (y 1) (y 2)) := by
    blk_ext [iblk, h0, h1, h2]
  refine h.trans ?_
  entry_read
  pointwise
  exact eq_at4 _ _ _ _ _ _ rfl rfl rfl rfl

theorem blk5 (t : Fin cfg0.N) (y : S1x1x256.Idx) :
    iblk m c 5 t y = at2 (m ((c : Thread nD τ).loc main_arg5)) (t.val + (y 0).val) (y 2).val := by
  have hi : ∀ t : Fin cfg0.N, win0_5.index t (0 : Fin 3) = t.val ∧ win0_5.index t (1 : Fin 3) = 0 ∧ win0_5.index t (2 : Fin 3) = 0 :=
    (by decide +kernel : ∀ t : Fin grid0.N, _)
  obtain ⟨h0, h1, h2⟩ := hi t
  have hb : t.val + (y 0).val < 14 := by
    have := pt_lt t
    have : (y 0).val < 1 := (y 0).isLt
    omega
  have h : iblk m c 5 t y = V m c main_v10 (ix3 ⟨t.val + (y 0).val, hb⟩ (y 1) (y 2)) := by
    blk_ext [iblk, h0, h1, h2]
  refine h.trans ?_
  entry_read
  pointwise
  exact eq_at2 _ _ _ _ rfl rfl

theorem blk6 (t : Fin cfg0.N) (y : S1x128.Idx) :
    iblk m c 6 t y = at1 (m ((c : Thread nD τ).loc main_arg6)) (y 1).val := by
  have h : iblk m c 6 t y = V m c main_v11 y := by
    have hi : ∀ (t : Fin cfg0.N) a, win0_6.index t a = 0 := by decide +kernel
    blk_ext [iblk, hi t]
  refine h.trans ?_
  entry_read
  pointwise
  exact eq_at1 _ _ _ rfl

theorem blk7 (t : Fin cfg0.N) (y : S1x128.Idx) :
    iblk m c 7 t y = at1 (m ((c : Thread nD τ).loc main_arg7)) (y 1).val := by
  have h : iblk m c 7 t y = V m c main_v12 y := by
    have hi : ∀ (t : Fin cfg0.N) a, win0_7.index t a = 0 := by decide +kernel
    blk_ext [iblk, hi t]
  refine h.trans ?_
  entry_read
  pointwise
  exact eq_at1 _ _ _ rfl

theorem blk8 (t : Fin cfg0.N) (y : S1x128.Idx) :
    iblk m c 8 t y = at1 (m ((c : Thread nD τ).loc main_arg8)) (y 1).val := by
  have h : iblk m c 8 t y = V m c main_v13 y := by
    have hi : ∀ (t : Fin cfg0.N) a, win0_8.index t a = 0 := by decide +kernel
    blk_ext [iblk, hi t]
  refine h.trans ?_
  entry_read
  pointwise
  exact eq_at1 _ _ _ rfl

theorem blk9 (t : Fin cfg0.N) (y : S1x128.Idx) :
    iblk m c 9 t y = at1 (m ((c : Thread nD τ).loc main_arg9)) (y 1).val := by
  have h : iblk m c 9 t y = V m c main_v14 y := by
    have hi : ∀ (t : Fin cfg0.N) a, win0_9.index t a = 0 := by decide +kernel
    blk_ext [iblk, hi t]
  refine h.trans ?_
  entry_read
  pointwise
  exact eq_at1 _ _ _ rfl

theorem blk10 (t : Fin cfg0.N) (y : S1x256.Idx) :
    iblk m c 10 t y = at1 (m ((c : Thread nD τ).loc main_arg10)) (y 1).val := by
  have h : iblk m c 10 t y = V m c main_v15 y := by
    have hi : ∀ (t : Fin cfg0.N) a, win0_10.index t a = 0 := by decide +kernel
    blk_ext [iblk, hi t]
  refine h.trans ?_
  entry_read
  pointwise
  exact eq_at1 _ _ _ rfl

end DiffAttn

end
-- ==== Proof.KerC.lean ====
module

public import proofs.«01_k».proof.Proof.KerA
public import proofs.«01_k».proof.Proof.KerB

@[expose] public section

/-! The carried scratch keeps what the first point wrote, so every point's block has one closed form. -/

noncomputable section

namespace DiffAttn

open Idealize.ShloMosaic Idealize.ShloMosaic.TcCoe Cert.KernelIdeal Cert.KernelIdeal.Gen

variable (m : (ℓ : Loc nD τ sig) → Buf (Elt Ideal) ℓ) (c : Dev nD)

/-- The norm's gain as a row. -/
def gainRow : Vec Ideal S1x256 .f32 := fun y => at1 (m ((c : Thread nD τ).loc main_arg10)) (y 1).val

theorem blk10_eq (t : Fin cfg0.N) : iblk m c 10 t = gainRow m c := funext fun y => blk10 m c t y

theorem carried : ∀ (n : ℕ) (hn : n < cfg0.N), (outsAt0 m c n hn).2.1 = k0_pay2 (gainRow m c) ∧ (outsAt0 m c n hn).2.2 = k0_pay3 (F := Ideal)
  | 0, hn => by
    rw [outsAt0_A m c ⟨0, hn⟩ (Nat.zero_mod _)]
    dsimp only
    constructor
    · refine (soutA4_eq ..).trans ?_
      rw [blk10_eq m c]
    · apply soutA5_eq
  | n + 1, hn => by
    have hN := lt_of_lt_of_eq hn (show cfg0.N = 14 from N_0)
    have h0 : ¬(n + 1) % 14 = 0 := by omega
    rw [outsAt0_B m c ⟨n + 1, hn⟩ h0]
    exact carried n (Nat.lt_of_succ_lt hn)

/-- What point `t` writes. -/
theorem outs_eq (t : Fin cfg0.N) :
    (outsAt0 m c t.val t.isLt).1 = blockOf (iblk m c 0 t) (iblk m c 1 t) (iblk m c 2 t) (iblk m c 3 t) (iblk m c 4 t) (iblk m c 5 t)
      (iblk m c 6 t) (iblk m c 7 t) (iblk m c 8 t) (iblk m c 9 t) (k0_pay2 (gainRow m c)) (k0_pay3 (F := Ideal)) := by
  by_cases h0 : t.val % 14 = 0
  · rw [outsAt0_A m c t h0]
    dsimp only
    refine (outA_eq ..).trans ?_
    rw [blk10_eq m c t]
  · rw [outsAt0_B m c t h0]
    dsimp only
    refine (outB_eq ..).trans ?_
    obtain ⟨h4, h5⟩ := carried m c (t.val - 1) (by have := t.isLt; omega)
    rw [h4, h5]

end DiffAttn

end
-- ==== Proof.KerD.lean ====
module

public import proofs.«01_k».proof.Proof.KerA
public import proofs.«01_k».proof.Proof.Common
public import Idealize.ShloMosaic.Lib.Pointwise
public import Idealize.ShloMosaic.Lib.WordCmp

@[expose] public section

/-! A point's block, over blocks that read the arguments: the plain result. -/

noncomputable section

namespace DiffAttn

open Idealize.ShloMosaic Idealize.ShloMosaic.TcCoe Cert.KernelIdeal Cert.KernelIdeal.Gen

/-! ### The named factor and the constants -/

theorem kap_eq : kap = (((Real.sqrt 128)⁻¹ * (Real.log 2)⁻¹ : ℝ) : EReal) :=
  IdealRules.named_const.ideal_named_scalar _ _ _ _ rfl

theorem one_eq : Ideal.ofBits .f32 0x3F800000#32 = ((1 : ℝ) : EReal) := by
  simp [Ideal.ofBits, Ideal.ieee, -EReal.coe_mul]; norm_num

theorem i256_eq : Ideal.ofBits .f32 0x3B800000#32 = ((1 / 256 : ℝ) : EReal) := by
  simp [Ideal.ofBits, Ideal.ieee, -EReal.coe_mul]; norm_num

theorem c256_eq : Ideal.ofBits .f32 0x43800000#32 = ((256 : ℝ) : EReal) := by
  simp [Ideal.ofBits, Ideal.ieee, -EReal.coe_mul]; norm_num

theorem eps_eq : ∃ ε : ℝ, Ideal.ofBits .f32 0x3727C5AC#32 = (ε : EReal) := by
  simp only [Ideal.ofBits, Ideal.ieee]
  exact ⟨_, rfl⟩

/-! ### The two carried arrays -/

theorem tri_apply (a b : ℕ) (ha : a < 128) (hb : b < 128) :
    at2 (k0_pay3 (F := Ideal) : (⟨2, ![128, 128]⟩ : Shape).Idx → EReal) a b = if a ≤ b then ⊤ else ⊥ := by
  rw [at2, dif_pos ⟨ha, hb⟩]
  unfold k0_pay3
  pointwise
  show Scalar.select (IntOp.cmpi .sle (BitVec.ofNat 32 a) (BitVec.ofNat 32 b)) _ _ = _
  rw [Idealize.ShloMosaic.WordCmp.cmpi_sle_ofNat (by omega) (by omega)]
  by_cases h : a ≤ b
  · simp [h, Scalar.select, Ideal.ofBits, Ideal.ieee]
  · simp [h, Scalar.select, Ideal.ofBits, Ideal.ieee]

theorem gb_apply (x : Vec Ideal S1x256 .f32) (v q : ℕ) (hv : v < 256) (hq : q < 128) :
    at2 (k0_pay2 x : (⟨2, ![256, 128]⟩ : Shape).Idx → EReal) v q = at2 x 0 v * Ideal.ofBits .f32 0x3EAAF212#32 := by
  rw [at2, dif_pos ⟨hv, hq⟩]
  unfold k0_pay2
  pointwise
  exact congrArg (· * _) (eq_at2 x _ 0 v rfl rfl)

theorem read_at2 {n0 n1 : ℕ} (X : (⟨2, ![n0, n1]⟩ : Shape).Idx → EReal) (f : ℕ → ℕ → EReal)
    (h : ∀ y : (⟨2, ![n0, n1]⟩ : Shape).Idx, X y = f (y 0).val (y 1).val) (a b : ℕ) (ha : a < n0) (hb : b < n1) : at2 X a b = f a b := by
  rw [at2, dif_pos ⟨ha, hb⟩]; exact h _

theorem read_at3 {n0 n1 n2 : ℕ} (X : (⟨3, ![n0, n1, n2]⟩ : Shape).Idx → EReal) (f : ℕ → ℕ → ℕ → EReal)
    (h : ∀ y : (⟨3, ![n0, n1, n2]⟩ : Shape).Idx, X y = f (y 0).val (y 1).val (y 2).val) (a b c : ℕ) (ha : a < n0) (hb : b < n1)
    (hc : c < n2) : at3 X a b c = f a b c := by
  rw [at3, dif_pos ⟨ha, hb, hc⟩]; exact h _

theorem read_at4 {n0 n1 n2 n3 : ℕ} (X : (⟨4, ![n0, n1, n2, n3]⟩ : Shape).Idx → EReal) (f : ℕ → ℕ → ℕ → ℕ → EReal)
    (h : ∀ y : (⟨4, ![n0, n1, n2, n3]⟩ : Shape).Idx, X y = f (y 0).val (y 1).val (y 2).val (y 3).val) (a b c d : ℕ) (ha : a < n0)
    (hb : b < n1) (hc : c < n2) (hd : d < n3) : at4 X a b c d = f a b c d := by
  rw [at4, dif_pos ⟨ha, hb, hc, hd⟩]; exact h _

section Generic

variable (x0 : Vec Ideal QIn .fp8e4m3) (x1 : Vec Ideal QsIn .f32) (x2 : Vec Ideal KIn .fp8e4m3) (x3 : Vec Ideal KsIn .f32) (x4 : Vec Ideal VIn .fp8e4m3)
  (x5 : Vec Ideal S1x1x256 .f32) (x6 x7 x8 x9 : Vec Ideal S1x128 .f32) (x10 : Vec Ideal S1x256 .f32)
  (A0 : (⟨5, ![1, 1024, 28, 2, 128]⟩ : Shape).Idx → EReal) (A1 : (⟨4, ![1, 1024, 28, 2]⟩ : Shape).Idx → EReal)
  (A2 : (⟨5, ![1, 1024, 14, 2, 128]⟩ : Shape).Idx → EReal) (A3 : (⟨4, ![1, 1024, 14, 2]⟩ : Shape).Idx → EReal)
  (A4 : (⟨4, ![1, 1024, 14, 256]⟩ : Shape).Idx → EReal) (A5 : (⟨2, ![14, 256]⟩ : Shape).Idx → EReal)
  (A6 A7 A8 A9 : (⟨1, ![128]⟩ : Shape).Idx → EReal) (A10 : (⟨1, ![256]⟩ : Shape).Idx → EReal) (T : ℕ) (hT : T < 14)
  (b0 : ∀ y, x0 y = at5 A0 0 (y 2).val (2 * T + (y 0).val) (y 1).val (y 3).val)
  (b1 : ∀ y, x1 y = at4 A1 0 (y 2).val (2 * T + (y 0).val) (y 1).val)
  (b2 : ∀ y, x2 y = at5 A2 0 (y 2).val (T + (y 0).val) (y 1).val (y 3).val)
  (b3 : ∀ y, x3 y = at4 A3 0 (y 2).val (T + (y 0).val) (y 1).val)
  (b4 : ∀ y, x4 y = at4 A4 0 (y 1).val (T + (y 0).val) (y 2).val)
  (b5 : ∀ y, x5 y = at2 A5 (T + (y 0).val) (y 2).val)
  (b6 : ∀ y, x6 y = at1 A6 (y 1).val) (b7 : ∀ y, x7 y = at1 A7 (y 1).val) (b8 : ∀ y, x8 y = at1 A8 (y 1).val)
  (b9 : ∀ y, x9 y = at1 A9 (y 1).val) (b10 : ∀ y, x10 y = at1 A10 (y 1).val)
  (hA1 : ∀ y, 0 < A1 y)

include hT b0 b2 b3 in
theorem uR_eq (c g i q t : ℕ) (hc : c < 2) (hg : g < 2) (hi : i < 8) (hq : q < 128) (ht : t < 1024) :
    uRv x0 x2 x3 c g i t q = score A0 A2 A3 c (2 * T + g) (128 * i + q) t := by
  have hn : (2 * T + g) / 2 = T := by omega
  rw [uRv, dv, score, hn, Nat.mul_comm i 128, read_at3 x3 (fun a b d => at4 A3 0 d (T + a) b) b3 0 c t (by decide) hc ht]
  refine congrArg (· * _) (Finset.sum_congr rfl fun d _ => ?_)
  rw [read_at4 x0 (fun a b d e => at5 A0 0 d (2 * T + a) b e) b0 g c (128 * i + q) d.val hg hc (by omega) d.isLt,
    read_at4 x2 (fun a b d e => at5 A2 0 d (T + a) b e) b2 0 c t d.val (by decide) hc ht d.isLt]
  exact mul_comm _ _

include hT b0 b2 b3 in
theorem u_eq (c g i q t : ℕ) (hc : c < 2) (hg : g < 2) (hi : i < 8) (hq : q < 128) (ht : t < 128 * (i + 1)) :
    uv x0 x2 x3 (k0_pay3 (F := Ideal)) c g i t q = um (score A0 A2 A3 c (2 * T + g) (128 * i + q)) (128 * i + q) t := by
  rw [uv, uR_eq x0 x2 x3 A0 A2 A3 T hT b0 b2 b3 c g i q t hc hg hi hq (by omega), um]
  by_cases h : 128 * i ≤ t
  · rw [if_pos h, tri_apply _ _ (by omega) hq]
    by_cases h' : t ≤ 128 * i + q
    · rw [if_pos h', if_pos (by omega)]; exact min_eq_left le_top
    · rw [if_neg h', if_neg (by omega)]; exact min_eq_right bot_le
  · rw [if_neg h, if_pos (by omega)]

include hA1 in
theorem scale_pos (r n c : ℕ) (hr : r < 1024) (hn : n < 28) (hc : c < 2) : 0 < at4 A1 0 r n c := by
  rw [at4, dif_pos ⟨by decide, hr, hn, hc⟩]; exact hA1 _

include hT b0 b1 b2 b3 hA1 in
theorem e_eq (c g i q t : ℕ) (hc : c < 2) (hg : g < 2) (hi : i < 8) (hq : q < 128) (ht : t < 128 * (i + 1)) :
    ev x0 x1 x2 x3 (k0_pay3 (F := Ideal)) c g i t q = expo A0 A1 A2 A3 c (2 * T + g) (128 * i + q) t := by
  have hl : 0 < Real.log 2 := Real.log_pos one_lt_two
  have hs : 0 < Real.sqrt 128 := Real.sqrt_pos.mpr (by norm_num)
  rw [ev, mv, avv, kap_eq, Nat.mul_comm i 128, read_at3 x1 (fun a b d => at4 A1 0 d (2 * T + a) b) b1 g c (128 * i + q) hg hc (by omega)]
  exact ex_eq (score A0 A2 A3 c (2 * T + g) (128 * i + q)) (at4 A1 0 (128 * i + q) (2 * T + g) c)
    (mul_pos (inv_pos.mpr hs) (inv_pos.mpr hl)) (by field_simp) (scale_pos A1 hA1 _ _ c (by omega) (by omega) hc)
    (fun t => uv x0 x2 x3 (k0_pay3 (F := Ideal)) c g i t q) (128 * i + q) 1024 (128 * (i + 1)) t (by omega) (by omega) ht
    (fun t ht => u_eq x0 x2 x3 A0 A2 A3 T hT b0 b2 b3 c g i q t hc hg hi hq ht)

include b6 b7 b8 b9 in
theorem lam_eq : lamv ![x6, x7, x8, x9] = lambda A6 A7 A8 A9 := by
  have h : ∀ (x : Vec Ideal S1x128 .f32) (A : (⟨1, ![128]⟩ : Shape).Idx → EReal), (∀ y, x y = at1 A (y 1).val) → ∀ d : Fin 128, at2 x 0 d.val = at1 A d.val :=
    fun x A hx d => read_at2 x (fun _ b => at1 A b) hx 0 d.val (by decide) d.isLt
  show Ideal.exp (∑ d : Fin 128, at2 x6 0 d.val * at2 x7 0 d.val) - Ideal.exp (∑ d : Fin 128, at2 x8 0 d.val * at2 x9 0 d.val)
    + Ideal.ofBits .f32 0x3F2A86F7#32 = _
  simp only [h x6 A6 b6, h x7 A7 b7, h x8 A8 b8, h x9 A9 b9]
  rfl

include hT b0 b1 b2 b3 b4 b5 b6 b7 b8 b9 b10 hA1 in
theorem y_eq (g i q v : ℕ) (hg : g < 2) (hi : i < 8) (hq : q < 128) (hv : v < 256) :
    yv x0 x1 x2 x3 x4 x5 ![x6, x7, x8, x9] (k0_pay3 (F := Ideal)) (k0_pay2 x10) i g q v =
      plain A0 A1 A2 A3 A4 A5 A6 A7 A8 A9 A10 (2 * T + g) (128 * i + q) v := by
  have hn : (2 * T + g) / 2 = T := by omega
  have hr : 128 * i + q < 1024 := by omega
  have he : ∀ c t, c < 2 → t < 128 * (i + 1) →
      ev x0 x1 x2 x3 (k0_pay3 (F := Ideal)) c g i t q = expo A0 A1 A2 A3 c (2 * T + g) (128 * i + q) t :=
    fun c t hc ht => e_eq x0 x1 x2 x3 A0 A1 A2 A3 T hT b0 b1 b2 b3 hA1 c g i q t hc hg hi hq ht
  have hS : ∀ c, c < 2 → sv x0 x1 x2 x3 (k0_pay3 (F := Ideal)) c g i q =
      ∑ t ∈ Finset.range (128 * (i + 1)), expo A0 A1 A2 A3 c (2 * T + g) (128 * i + q) t :=
    fun c hc => Finset.sum_congr rfl fun t ht => he c t hc (Finset.mem_range.mp ht)
  have hw : ∀ t, t < 128 * (i + 1) → wgt x0 x1 x2 x3 ![x6, x7, x8, x9] (k0_pay3 (F := Ideal)) i g t q =
      kw (128 * (i + 1)) (expo A0 A1 A2 A3 0 (2 * T + g) (128 * i + q)) (expo A0 A1 A2 A3 1 (2 * T + g) (128 * i + q))
        (lambda A6 A7 A8 A9) t := by
    intro t ht
    rw [wgt, cfv, kw, hS 0 (by decide), hS 1 (by decide), he 0 t (by decide) ht, he 1 t (by decide) ht,
      lam_eq x6 x7 x8 x9 A6 A7 A8 A9 b6 b7 b8 b9]
  have hO : ∀ v, v < 256 → wvO x5 (ov x0 x1 x2 x3 x4 ![x6, x7, x8, x9] (k0_pay3 (F := Ideal)) i) g q v =
      kW (128 * (i + 1)) (expo A0 A1 A2 A3 0 (2 * T + g) (128 * i + q)) (expo A0 A1 A2 A3 1 (2 * T + g) (128 * i + q))
        (fun t v => at4 A4 0 t ((2 * T + g) / 2) v) (fun v => at2 A5 ((2 * T + g) / 2) v) (lambda A6 A7 A8 A9) v := by
    intro v hv
    rw [wvO, ov, kW, read_at3 x5 (fun a _ d => at2 A5 (T + a) d) b5 0 0 v (by decide) (by decide) hv, hn]
    refine congrArg (· * _) (Finset.sum_congr rfl fun t ht => ?_)
    have ht := Finset.mem_range.mp ht
    rw [hw t ht, read_at3 x4 (fun a b d => at4 A4 0 b (T + a) d) b4 0 t v (by decide) (by omega) hv]
    rfl
  have hG : at2 (k0_pay2 x10 : (⟨2, ![256, 128]⟩ : Shape).Idx → EReal) v q = at1 A10 v * Ideal.ofBits .f32 0x3EAAF212#32 := by
    rw [gb_apply x10 v q hv hq, read_at2 x10 (fun _ b => at1 A10 b) b10 0 v (by decide) hv]
  obtain ⟨ε, hε⟩ := eps_eq
  choose f0 p0 h0 using fun t => ex_real (score A0 A2 A3 0 (2 * T + g) (128 * i + q)) (at4 A1 0 (128 * i + q) (2 * T + g) 0)
    (s := (Real.sqrt 128)⁻¹) 1024 (128 * i + q) t hr
  choose f1 p1 h1 using fun t => ex_real (score A0 A2 A3 1 (2 * T + g) (128 * i + q)) (at4 A1 0 (128 * i + q) (2 * T + g) 1)
    (s := (Real.sqrt 128)⁻¹) 1024 (128 * i + q) t hr
  refine Eq.trans ?_ (row_eq (n' := 128 * (i + 1)) (one := Ideal.ofBits .f32 0x3F800000#32) (i256 := Ideal.ofBits .f32 0x3B800000#32)
    f0 f1 h0 h1 p0 p1 (by omega) (fun t ht => ex_masked _ _ _ _ _ (by omega)) (fun t ht => ex_masked _ _ _ _ _ (by omega))
    one_eq i256_eq c256_eq ε hε v hv)
  rw [yv, yO, fO, rlO, ssqO, ky, kr, hG, hS 0 (by decide), hO v hv,
    Finset.sum_congr (s₁ := Finset.range 256) rfl fun v hv => by rw [hO v (Finset.mem_range.mp hv)]]
  rfl

end Generic

end DiffAttn

end
-- ==== Proof.KerE.lean ====
module

public import proofs.«01_k».proof.Proof.KerC
public import proofs.«01_k».proof.Proof.KerD

@[expose] public section

/-! The array the kernel leaves is the plain formula, index by index. -/

noncomputable section

namespace DiffAttn

open Idealize.ShloMosaic Idealize.ShloMosaic.TcCoe Cert.KernelIdeal Cert.KernelIdeal.Gen

variable (m : (ℓ : Loc nD τ sig) → Buf (Elt Ideal) ℓ) (c : Dev nD)

/-- The array the kernel leaves, at each index. -/
theorem final (hpos : ∀ y, (0 : EReal) < m ((c : Thread nD τ).loc main_arg1) y) (i : S1024x7168.Idx) :
    (dats m 0 c).arrAt 11 cfg0.N i = plain (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      ((i 1).val / 256) (i 0).val ((i 1).val % 256) := by
  have h0 : (i 0).val < 1024 := (i 0).isLt
  have h1 : (i 1).val < 7168 := (i 1).isLt
  have hp : Cert.KernelIdeal.Value.pt11Of i = (i 1).val / 512 := by
    show 14 * ((i 0).val / 1024 - 0) + 1 * ((i 1).val / 512 - 0) = _
    omega
  have hN : (i 1).val / 512 < cfg0.N := by
    rw [show cfg0.N = 14 from N_0]
    omega
  have hl0 : (Cert.KernelIdeal.Value.loc11Of i 0).val = (i 0).val % 1024 := rfl
  have hl1 : (Cert.KernelIdeal.Value.loc11Of i 1).val = (i 1).val % 512 := rfl
  rw [Cert.KernelIdeal.Value.final11 m c, Cert.KernelIdeal.Value.G11, dif_pos (hp ▸ hN)]
  simp only [hp]
  rw [← Cert.KernelIdeal.Value.outsAt0_sweep m c ((i 1).val / 512) hN]
  have e := congrFun (outs_eq m c ⟨(i 1).val / 512, hN⟩) (Cert.KernelIdeal.Value.loc11Of i)
  refine e.trans ?_
  rw [blockOf, hl0, hl1]
  have y := y_eq (iblk m c 0 ⟨(i 1).val / 512, hN⟩) (iblk m c 1 ⟨(i 1).val / 512, hN⟩) (iblk m c 2 ⟨(i 1).val / 512, hN⟩)
    (iblk m c 3 ⟨(i 1).val / 512, hN⟩) (iblk m c 4 ⟨(i 1).val / 512, hN⟩) (iblk m c 5 ⟨(i 1).val / 512, hN⟩)
    (iblk m c 6 ⟨(i 1).val / 512, hN⟩) (iblk m c 7 ⟨(i 1).val / 512, hN⟩) (iblk m c 8 ⟨(i 1).val / 512, hN⟩)
    (iblk m c 9 ⟨(i 1).val / 512, hN⟩) (gainRow m c) _ _ _ _ _ _ _ _ _ _ _ ((i 1).val / 512) (by omega)
    (blk0 m c ⟨(i 1).val / 512, hN⟩) (blk1 m c ⟨(i 1).val / 512, hN⟩) (blk2 m c ⟨(i 1).val / 512, hN⟩) (blk3 m c ⟨(i 1).val / 512, hN⟩)
    (blk4 m c ⟨(i 1).val / 512, hN⟩) (blk5 m c ⟨(i 1).val / 512, hN⟩) (blk6 m c ⟨(i 1).val / 512, hN⟩) (blk7 m c ⟨(i 1).val / 512, hN⟩)
    (blk8 m c ⟨(i 1).val / 512, hN⟩) (blk9 m c ⟨(i 1).val / 512, hN⟩) (fun _ => rfl) hpos
    ((i 1).val % 512 / 256) ((i 0).val % 1024 / 128) ((i 0).val % 1024 % 128) ((i 1).val % 512 % 256) (by omega) (by omega) (by omega) (by omega)
  refine y.trans ?_
  rw [show 2 * ((i 1).val / 512) + (i 1).val % 512 / 256 = (i 1).val / 256 by omega,
    show 128 * ((i 0).val % 1024 / 128) + (i 0).val % 1024 % 128 = (i 0).val by omega, show (i 1).val % 512 % 256 = (i 1).val % 256 by omega]

end DiffAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_positive
public import proofs.«01_k».proof.Proof.PreQ
public import proofs.«01_k».proof.Proof.RefD
public import proofs.«01_k».proof.Proof.KerE
public import Idealize.ShloMosaic.Adequacy
public import Idealize.ShloMosaic.Init

@[expose] public section

noncomputable section

namespace Cert.Proof

open Idealize.ShloMosaic Idealize.SL.Sem Cert.Kernel

/-- The two programs' results agree. -/
theorem algebraic : algebraic_KernelIdeal_ReferenceIdeal_pre_positive (hKernelIdeal := Cert.KernelIdeal.Gen.facts)
    (hReferenceIdeal := Cert.ReferenceIdeal.Gen.facts) (hPre_positive := Cert.Pre_positive.Gen.facts) := by
  intro m ρ m' ρ' hpre hagree
  refine ⟨fun c => (Cert.KernelIdeal.Gen.dats m 0 c).arrAt 11 Cert.KernelIdeal.cfg0.N, Cert.KernelIdeal.Value.run_blocks m ρ,
    (θ_run _ _ _).mono (fun r h c => ⟨(h c).1.trans ?_, (h c).2⟩) (Cert.ReferenceIdeal.Value.run_blocks m' ρ')⟩
  funext i
  obtain ⟨e0, e1, e2, e3, e4, e5, e6, e7, e8, e9, e10⟩ := hagree c
  refine (DiffAttn.Ref.final m' c i).trans (Eq.trans ?_ (DiffAttn.final m c (DiffAttn.scales_pos _ _ _ _ _ _ _ _ _ _ _ (hpre c)) i).symm)
  rw [DiffAttn.Ref.result]
  rw [e0, e1, e2, e3, e4, e5, e6, e7, e8, e9, e10]

/-- Everything the certificate claims. -/
theorem claim : Cert.Claim :=
  ⟨Cert.Kernel.Gen.facts, Cert.KernelIdeal.Gen.facts, Cert.ReferenceIdeal.Gen.facts, Cert.Pre_positive.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "scale_log2" .f32 0x3E0293EE#32
      (((Real.sqrt 128)⁻¹ * (Real.log 2)⁻¹ : ℝ) : EReal) rfl,
    algebraic⟩

end Cert.Proof

end
